-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_two_experts_KernelIdeal [hPre_two_experts_KernelIdeal : Cert.Pre_two_experts_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_two_experts_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_two_experts_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_two_experts_ReferenceIdeal [hPre_two_experts_ReferenceIdeal : Cert.Pre_two_experts_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_two_experts_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_two_experts_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_two_experts_KernelIdeal [hKernelIdeal : Cert.KernelIdeal.Facts] [hPre_two_experts_KernelIdeal : Cert.Pre_two_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_two_experts_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_two_experts_ReferenceIdeal [hReferenceIdeal : Cert.ReferenceIdeal.Facts] [hPre_two_experts_ReferenceIdeal : Cert.Pre_two_experts_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_two_experts_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_two_experts_KernelIdeal [hKernelIdeal : Cert.KernelIdeal.Facts] [hReferenceIdeal : Cert.ReferenceIdeal.Facts] [hPre_two_experts_KernelIdeal : Cert.Pre_two_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_two_experts_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_two_experts_KernelIdeal : Cert.Pre_two_experts_KernelIdeal.Facts) (hPre_two_experts_ReferenceIdeal : Cert.Pre_two_experts_ReferenceIdeal.Facts),
    quiescent_Kernel (hKernel := hKernel)
    ∧ quiescent_KernelIdeal (hKernelIdeal := hKernelIdeal)
    ∧ quiescent_KernelIdeal_pre_two_experts_KernelIdeal (hKernelIdeal := hKernelIdeal) (hPre_two_experts_KernelIdeal := hPre_two_experts_KernelIdeal)
    ∧ quiescent_ReferenceIdeal (hReferenceIdeal := hReferenceIdeal)
    ∧ quiescent_ReferenceIdeal_pre_two_experts_ReferenceIdeal (hReferenceIdeal := hReferenceIdeal) (hPre_two_experts_ReferenceIdeal := hPre_two_experts_ReferenceIdeal)
    ∧ preserves_Kernel_KernelIdeal
    ∧ algebraic_KernelIdeal_ReferenceIdeal_pre_two_experts_KernelIdeal (hKernelIdeal := hKernelIdeal) (hReferenceIdeal := hReferenceIdeal) (hPre_two_experts_KernelIdeal := hPre_two_experts_KernelIdeal)
-- ==== Pre_two_experts_KernelIdeal.lean ====
abbrev S256x128 : Shape := ⟨2, ![256, 128]⟩
abbrev S128x32 : Shape := ⟨2, ![128, 32]⟩
abbrev S256x2 : Shape := ⟨2, ![256, 2]⟩
abbrev S2x128x256 : Shape := ⟨3, ![2, 128, 256]⟩
abbrev S256x1 : Shape := ⟨2, ![256, 1]⟩
abbrev S256 : Shape := ⟨1, ![256]⟩
abbrev S_ : Shape := ⟨0, ![]⟩

class Facts : Prop where
  slices_S256x2_S256x1_0_0 : S256x2.Slices ![0, 0] S256x1
  shapeCasts_S256x1_S256 : S256x1.ShapeCasts S256
  slices_S256x2_S256x1_0_1 : S256x2.Slices ![0, 1] S256x1
  bcast_S_S256x2 : S_.BroadcastsInDim S256x2 (![] : Fin 0 → Fin S256x2.rank)

variable [Facts]

def fn {F : FTy → Type} [FloatOps F] (main_arg0 : FVec F S256x128 .f32) (main_arg1 : FVec F S128x32 .f32) (main_arg2 : IVec S256x2 32) (main_arg3 : FVec F S2x128x256 .f32) : IVec S256 1 × IVec S256x2 1 :=
  let main_v0 : IVec S256x1 32 := (extractStridedSlice S256x1 ![0, 0] · slices_S256x2_S256x1_0_0) main_arg2
  let main_v1 : IVec S256 32 := shapeCast S256 main_v0 shapeCasts_S256x1_S256
  let main_v2 : IVec S256x1 32 := (extractStridedSlice S256x1 ![0, 1] · slices_S256x2_S256x1_0_1) main_arg2
  let main_v3 : IVec S256 32 := shapeCast S256 main_v2 shapeCasts_S256x1_S256
  let main_v4 : IVec S256 1 := cmpi .ne main_v1 main_v3
  let main_c : IVec S_ 32 := constantI S_ 32 0#32
  let main_v5 : IVec S256x2 32 := broadcastInDim S256x2 ![] bcast_S_S256x2 main_c
  let main_v6 : IVec S256x2 1 := cmpi .sge main_arg2 main_v5
  let main_c_0 : IVec S_ 32 := constantI S_ 32 32#32
  let main_v7 : IVec S256x2 32 := broadcastInDim S256x2 ![] bcast_S_S256x2 main_c_0
  let main_v8 : IVec S256x2 1 := cmpi .slt main_arg2 main_v7
  let main_v9 : IVec S256x2 1 := andi main_v6 main_v8
  (main_v4, main_v9)
-- ==== Pre_two_experts_ReferenceIdeal.lean ====
abbrev S256x128 : Shape := ⟨2, ![256, 128]⟩
abbrev S128x32 : Shape := ⟨2, ![128, 32]⟩
abbrev S256x2 : Shape := ⟨2, ![256, 2]⟩
abbrev S32x128x256 : Shape := ⟨3, ![32, 128, 256]⟩
abbrev S256x1 : Shape := ⟨2, ![256, 1]⟩
abbrev S256 : Shape := ⟨1, ![256]⟩
abbrev S_ : Shape := ⟨0, ![]⟩

class Facts : Prop where
  slices_S256x2_S256x1_0_0 : S256x2.Slices ![0, 0] S256x1
  shapeCasts_S256x1_S256 : S256x1.ShapeCasts S256
  slices_S256x2_S256x1_0_1 : S256x2.Slices ![0, 1] S256x1
  bcast_S_S256x2 : S_.BroadcastsInDim S256x2 (![] : Fin 0 → Fin S256x2.rank)

variable [Facts]

def fn {F : FTy → Type} [FloatOps F] (main_arg0 : FVec F S256x128 .f32) (main_arg1 : FVec F S128x32 .f32) (main_arg2 : IVec S256x2 32) (main_arg3 : FVec F S32x128x256 .f32) : IVec S256 1 × IVec S256x2 1 :=
  let main_v0 : IVec S256x1 32 := (extractStridedSlice S256x1 ![0, 0] · slices_S256x2_S256x1_0_0) main_arg2
  let main_v1 : IVec S256 32 := shapeCast S256 main_v0 shapeCasts_S256x1_S256
  let main_v2 : IVec S256x1 32 := (extractStridedSlice S256x1 ![0, 1] · slices_S256x2_S256x1_0_1) main_arg2
  let main_v3 : IVec S256 32 := shapeCast S256 main_v2 shapeCasts_S256x1_S256
  let main_v4 : IVec S256 1 := cmpi .ne main_v1 main_v3
  let main_c : IVec S_ 32 := constantI S_ 32 0#32
  let main_v5 : IVec S256x2 32 := broadcastInDim S256x2 ![] bcast_S_S256x2 main_c
  let main_v6 : IVec S256x2 1 := cmpi .sge main_arg2 main_v5
  let main_c_0 : IVec S_ 32 := constantI S_ 32 32#32
  let main_v7 : IVec S256x2 32 := broadcastInDim S256x2 ![] bcast_S_S256x2 main_c_0
  let main_v8 : IVec S256x2 1 := cmpi .slt main_arg2 main_v7
  let main_v9 : IVec S256x2 1 := andi main_v6 main_v8
  (main_v4, main_v9)
-- ==== Kernel.lean ====
abbrev S256x128 : Shape := ⟨2, ![256, 128]⟩
abbrev S128x32 : Shape := ⟨2, ![128, 32]⟩
abbrev S256x2 : Shape := ⟨2, ![256, 2]⟩
abbrev S2x128x256 : Shape := ⟨3, ![2, 128, 256]⟩
abbrev S256x256 : Shape := ⟨2, ![256, 256]⟩
abbrev S2x2x2x64x256 : Shape := ⟨5, ![2, 2, 2, 64, 256]⟩
abbrev S2x2x3x2x64x256 : Shape := ⟨6, ![2, 2, 3, 2, 64, 256]⟩
abbrev S2x2x3x2 : Shape := ⟨4, ![2, 2, 3, 2]⟩
abbrev S_ : Shape := ⟨0, ![]⟩
abbrev S256x32 : Shape := ⟨2, ![256, 32]⟩
abbrev S256 : Shape := ⟨1, ![256]⟩
abbrev S256x1 : Shape := ⟨2, ![256, 1]⟩
abbrev S64x128 : Shape := ⟨2, ![64, 128]⟩
abbrev S64x1 : Shape := ⟨2, ![64, 1]⟩
abbrev S1x128x256 : Shape := ⟨3, ![1, 128, 256]⟩
abbrev S128x256 : Shape := ⟨2, ![128, 256]⟩
abbrev S64x256 : Shape := ⟨2, ![64, 256]⟩
abbrev S1x1x1x64x256 : Shape := ⟨5, ![1, 1, 1, 64, 256]⟩
abbrev S1x1x1x1 : Shape := ⟨4, ![1, 1, 1, 1]⟩
abbrev S1x1x1x1x64x256 : Shape := ⟨6, ![1, 1, 1, 1, 64, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S128x32, .f32⟩
  | .hbm, ⟨2, _⟩ => ⟨S256x2, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S128x32, .f32⟩
  | .local _ .vmem, ⟨2, _⟩ => ⟨S256x2, .i32⟩
  | .local _ .vmem, ⟨3, _⟩ => ⟨S2x128x256, .f32⟩
  | .local _ .vmem, ⟨4, _⟩ => ⟨S256x256, .f32⟩
  | .local _ .vmem, ⟨5, _⟩ => ⟨S2x2x2x64x256, .bf16⟩
  | .local _ .vmem, ⟨6, _⟩ => ⟨S2x2x3x2x64x256, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 1 53 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_2 : BitVec 32 := 1#32
  let v10 : BitVec 32 := Scalar.muli v3 c1_i32_2
  let v11 : BitVec 32 := Scalar.addi c0_i32 v10
  v11.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_4 : BitVec 32 := 1#32
  let v12 : BitVec 32 := Scalar.muli v4 c1_i32_4
  let v13 : BitVec 32 := Scalar.addi c0_i32_5 v12
  v13.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v5 : BitVec 32 := Scalar.xori v2 c2_i32
  let c1_i32_7 : BitVec 32 := 1#32
  let v14 : BitVec 32 := Scalar.muli v5 c1_i32_7
  let v15 : BitVec 32 := Scalar.addi c0_i32_8 v14
  v15.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v6 : BitVec 32 := Scalar.xori v2 c4_i32
  let c1_i32_10 : BitVec 32 := 1#32
  let v16 : BitVec 32 := Scalar.muli v6 c1_i32_10
  let v17 : BitVec 32 := Scalar.addi c0_i32_11 v16
  v17.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v7 : BitVec 32 := Scalar.xori v2 c8_i32
  let c1_i32_13 : BitVec 32 := 1#32
  let v18 : BitVec 32 := Scalar.muli v7 c1_i32_13
  let v19 : BitVec 32 := Scalar.addi c0_i32_14 v18
  v19.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v8 : BitVec 32 := Scalar.xori v2 c12_i32
  let c1_i32_16 : BitVec 32 := 1#32
  let v20 : BitVec 32 := Scalar.muli v8 c1_i32_16
  let v21 : BitVec 32 := Scalar.addi c0_i32_17 v20
  v21.toNat
def k0_dev7 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_66 : BitVec 32 := 1#32
  let v109 : BitVec 32 := Scalar.muli v3 c1_i32_66
  let v110 : BitVec 32 := Scalar.addi c0_i32_67 v109
  v110.toNat
def k0_dev8 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_87 : BitVec 32 := 1#32
  let v119 : BitVec 32 := Scalar.muli v4 c1_i32_87
  let v120 : BitVec 32 := Scalar.addi c0_i32_88 v119
  v120.toNat
def k0_dev9 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v5 : BitVec 32 := Scalar.xori v2 c2_i32
  let c1_i32_108 : BitVec 32 := 1#32
  let v129 : BitVec 32 := Scalar.muli v5 c1_i32_108
  let v130 : BitVec 32 := Scalar.addi c0_i32_109 v129
  v130.toNat
def k0_dev10 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v6 : BitVec 32 := Scalar.xori v2 c4_i32
  let c1_i32_143 : BitVec 32 := 1#32
  let v158 : BitVec 32 := Scalar.muli v6 c1_i32_143
  let v159 : BitVec 32 := Scalar.addi c0_i32_144 v158
  v159.toNat
def k0_dev11 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v7 : BitVec 32 := Scalar.xori v2 c8_i32
  let c1_i32_164 : BitVec 32 := 1#32
  let v168 : BitVec 32 := Scalar.muli v7 c1_i32_164
  let v169 : BitVec 32 := Scalar.addi c0_i32_165 v168
  v169.toNat
def k0_dev12 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v8 : BitVec 32 := Scalar.xori v2 c12_i32
  let c1_i32_185 : BitVec 32 := 1#32
  let v178 : BitVec 32 := Scalar.muli v8 c1_i32_185
  let v179 : BitVec 32 := Scalar.addi c0_i32_186 v178
  v179.toNat
def k0_dev13 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_220 : BitVec 32 := 1#32
  let v207 : BitVec 32 := Scalar.muli v3 c1_i32_220
  let v208 : BitVec 32 := Scalar.addi c0_i32_221 v207
  v208.toNat
def k0_dev14 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_241 : BitVec 32 := 1#32
  let v217 : BitVec 32 := Scalar.muli v4 c1_i32_241
  let v218 : BitVec 32 := Scalar.addi c0_i32_242 v217
  v218.toNat
def k0_dev15 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v5 : BitVec 32 := Scalar.xori v2 c2_i32
  let c1_i32_262 : BitVec 32 := 1#32
  let v227 : BitVec 32 := Scalar.muli v5 c1_i32_262
  let v228 : BitVec 32 := Scalar.addi c0_i32_263 v227
  v228.toNat
def k0_dev16 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v6 : BitVec 32 := Scalar.xori v2 c4_i32
  let c1_i32_297 : BitVec 32 := 1#32
  let v256 : BitVec 32 := Scalar.muli v6 c1_i32_297
  let v257 : BitVec 32 := Scalar.addi c0_i32_298 v256
  v257.toNat
def k0_dev17 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v7 : BitVec 32 := Scalar.xori v2 c8_i32
  let c1_i32_318 : BitVec 32 := 1#32
  let v266 : BitVec 32 := Scalar.muli v7 c1_i32_318
  let v267 : BitVec 32 := Scalar.addi c0_i32_319 v266
  v267.toNat
def k0_dev18 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v8 : BitVec 32 := Scalar.xori v2 c12_i32
  let c1_i32_339 : BitVec 32 := 1#32
  let v276 : BitVec 32 := Scalar.muli v8 c1_i32_339
  let v277 : BitVec 32 := Scalar.addi c0_i32_340 v276
  v277.toNat
def k0_dev19 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v6 : BitVec 32 := Scalar.xori v2 c4_i32
  let c1_i32_509 : BitVec 32 := 1#32
  let v347 : BitVec 32 := Scalar.muli v6 c1_i32_509
  let v348 : BitVec 32 := Scalar.addi c0_i32_510 v347
  v348.toNat
def k0_dev20 (d0 : Dev nD) : Nat :=
  let c0_i32_531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v7 : BitVec 32 := Scalar.xori v2 c8_i32
  let c1_i32_530 : BitVec 32 := 1#32
  let v357 : BitVec 32 := Scalar.muli v7 c1_i32_530
  let v358 : BitVec 32 := Scalar.addi c0_i32_531 v357
  v358.toNat
def k0_dev21 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v8 : BitVec 32 := Scalar.xori v2 c12_i32
  let c1_i32_551 : BitVec 32 := 1#32
  let v367 : BitVec 32 := Scalar.muli v8 c1_i32_551
  let v368 : BitVec 32 := Scalar.addi c0_i32_552 v367
  v368.toNat
def k0_dev22 (d0 : Dev nD) : Nat :=
  let c0_i32_723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_722 : BitVec 32 := 1#32
  let v438 : BitVec 32 := Scalar.muli v3 c1_i32_722
  let v439 : BitVec 32 := Scalar.addi c0_i32_723 v438
  v439.toNat
def k0_dev23 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_743 : BitVec 32 := 1#32
  let v448 : BitVec 32 := Scalar.muli v4 c1_i32_743
  let v449 : BitVec 32 := Scalar.addi c0_i32_744 v448
  v449.toNat
def k0_dev24 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v5 : BitVec 32 := Scalar.xori v2 c2_i32
  let c1_i32_764 : BitVec 32 := 1#32
  let v458 : BitVec 32 := Scalar.muli v5 c1_i32_764
  let v459 : BitVec 32 := Scalar.addi c0_i32_765 v458
  v459.toNat
def k0_dev25 (d0 : Dev nD) : Nat :=
  let c0_i32_936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v6 : BitVec 32 := Scalar.xori v2 c4_i32
  let c1_i32_935 : BitVec 32 := 1#32
  let v529 : BitVec 32 := Scalar.muli v6 c1_i32_935
  let v530 : BitVec 32 := Scalar.addi c0_i32_936 v529
  v530.toNat
def k0_dev26 (d0 : Dev nD) : Nat :=
  let c0_i32_957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v7 : BitVec 32 := Scalar.xori v2 c8_i32
  let c1_i32_956 : BitVec 32 := 1#32
  let v539 : BitVec 32 := Scalar.muli v7 c1_i32_956
  let v540 : BitVec 32 := Scalar.addi c0_i32_957 v539
  v540.toNat
def k0_dev27 (d0 : Dev nD) : Nat :=
  let c0_i32_978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v8 : BitVec 32 := Scalar.xori v2 c12_i32
  let c1_i32_977 : BitVec 32 := 1#32
  let v549 : BitVec 32 := Scalar.muli v8 c1_i32_977
  let v550 : BitVec 32 := Scalar.addi c0_i32_978 v549
  v550.toNat
def k0_dev28 (d0 : Dev nD) : Nat :=
  let c0_i32_1149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.xori v2 c1_i32_0
  let c1_i32_1148 : BitVec 32 := 1#32
  let v620 : BitVec 32 := Scalar.muli v3 c1_i32_1148
  let v621 : BitVec 32 := Scalar.addi c0_i32_1149 v620
  v621.toNat
def k0_dev29 (d0 : Dev nD) : Nat :=
  let c0_i32_1170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v4 : BitVec 32 := Scalar.xori v2 c3_i32
  let c1_i32_1169 : BitVec 32 := 1#32
  let v630 : BitVec 32 := Scalar.muli v4 c1_i32_1169
  let v631 : BitVec 32 := Scalar.addi c0_i32_1170 v630
  v631.toNat
def k0_dev30 (d0 : Dev nD) : Nat :=
  let c0_i32_1191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v5 : BitVec 32 := Scalar.xori v2 c2_i32
  let c1_i32_1190 : BitVec 32 := 1#32
  let v640 : BitVec 32 := Scalar.muli v5 c1_i32_1190
  let v641 : BitVec 32 := Scalar.addi c0_i32_1191 v640
  v641.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x32 : Shape := ⟨2, ![128, 32]⟩
abbrev S256x2 : Shape := ⟨2, ![256, 2]⟩
abbrev S32x128x256 : Shape := ⟨3, ![32, 128, 256]⟩
abbrev S256x32 : Shape := ⟨2, ![256, 32]⟩
abbrev S_ : Shape := ⟨0, ![]⟩
abbrev S256 : Shape := ⟨1, ![256]⟩
abbrev S256x1 : Shape := ⟨2, ![256, 1]⟩
abbrev S256x2x1 : Shape := ⟨3, ![256, 2, 1]⟩
abbrev S256x128x256 : Shape := ⟨3, ![256, 128, 256]⟩
abbrev S256x256 : Shape := ⟨2, ![256, 256]⟩

abbrev nBuf : Space → Nat
  | .hbm => 45
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x32, .f32⟩
  | .hbm, ⟨2, _⟩ => ⟨S256x2, .i32⟩
  | .hbm, ⟨3, _⟩ => ⟨S32x128x256, .f32⟩
  | .hbm, ⟨4, _⟩ => ⟨S256x32, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x32, .f32⟩
  | .hbm, ⟨9, _⟩ => ⟨S256x32, .f32⟩
  | .hbm, ⟨10, _⟩ => ⟨S256x32, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S256x32, .f32⟩
  | .hbm, ⟨15, _⟩ => ⟨S256x32, .f32⟩
  | .hbm, ⟨16, _⟩ => ⟨S_, .i32⟩
  | .hbm, ⟨17, _⟩ => ⟨S256x2, .i32⟩
  | .hbm, ⟨18, _⟩ => ⟨S256x2, .i1⟩
  | .hbm, ⟨19, _⟩ => ⟨S_, .i32⟩
  | .hbm, ⟨20, _⟩ => ⟨S256x2, .i32⟩
  | .hbm, ⟨21, _⟩ => ⟨S256x2, .i32⟩
  | .hbm, ⟨22, _⟩ => ⟨S256x2, .i32⟩
  | .hbm, ⟨23, _⟩ => ⟨S256x2x1, .i32⟩
  | .hbm, ⟨24, _⟩ => ⟨S256x2, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x1, .i32⟩
  | .hbm, ⟨29, _⟩ => ⟨S256, .i32⟩
  | .hbm, ⟨30, _⟩ => ⟨S256x1, .i32⟩
  | .hbm, ⟨31, _⟩ => ⟨S256, .i32⟩
  | .hbm, ⟨32, _⟩ => ⟨S256x1, .i32⟩
  | .hbm, ⟨33, _⟩ => ⟨S256x128x256, .f32⟩
  | .hbm, ⟨34, _⟩ => ⟨S256x256, .f32⟩
  | .hbm, ⟨35, _⟩ => ⟨S256x1, .i32⟩
  | .hbm, ⟨36, _⟩ => ⟨S256x128x256, .f32⟩
  | .hbm, ⟨37, _⟩ => ⟨S256x256, .f32⟩
  | .hbm, ⟨38, _⟩ => ⟨S256x1, .f32⟩
  | .hbm, ⟨39, _⟩ => ⟨S256x256, .f32⟩
  | .hbm, ⟨40, _⟩ => ⟨S256x256, .f32⟩
  | .hbm, ⟨41, _⟩ => ⟨S256x1, .f32⟩
  | .hbm, ⟨42, _⟩ => ⟨S256x256, .f32⟩
  | .hbm, ⟨43, _⟩ => ⟨S256x256, .f32⟩
  | .hbm, ⟨44, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩
abbrev main_call2_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.Struct.lean ====
/-
The kernel's body, written once over the CHUNKS and SLOTS it walks.

A chunk of the token rows is named by `(g, h)`: 64 rows starting at `(2 g + h) * 64`. The exchange has two phases
`p`; a CLUSTER `(g, p, h)` is one chunk in one phase, and a SLOT is a cluster with the number `i` of one of its three
partners. The printed body unrolls the loops over these; here each loop body is one definition, and the printed
body is shown to be these definitions composed, by unfolding alone.
-/
module

public import proofs.«01_k».proof.Proof.Gen.KernelIdeal
public import proofs.«01_k».proof.Proof.Gen.KernelIdeal.Skeleton

@[expose] public section

set_option synthInstance.maxSize 4096

noncomputable section

namespace Cert.Moe

open Cert.KernelIdeal Cert.KernelIdeal.Gen
open Idealize.ShloMosaic Idealize.SL.Sem

/-- A cluster `(g, p, h)`: chunk `(g, h)` in exchange phase `p`. -/
abbrev Cl : Type := Fin 2 × Fin 2 × Fin 2

/-- A slot: a cluster and which of its three partners. -/
abbrev Slot : Type := Cl × Fin 3

/-! ## The rectangles -/

/-- The offset of a cluster's block in the send buffer. -/
abbrev sOff (q : Cl) : Fin 5 → Nat := ![q.1.val, q.2.1.val, q.2.2.val, 0, 0]

/-- The offset of a slot's block in the receive buffer. -/
abbrev rOff (s : Slot) : Fin 6 → Nat := ![s.1.1.val, s.1.2.1.val, s.2.val, s.1.2.2.val, 0, 0]

/-- The place of a slot's semaphore in either array. -/
abbrev mOff (s : Slot) : Fin 4 → Nat := ![s.1.1.val, s.1.2.1.val, s.2.val, s.1.2.2.val]

/-- The first row of a chunk. -/
abbrev oOff (g h : Fin 2) : Fin 2 → Nat := ![(g.val * 2 + h.val) * 64, 0]

/-- A cluster's block lies in the send buffer. -/
theorem sInb : ∀ (q : Cl) a, sOff q a + S1x1x1x64x256.size a ≤ S2x2x2x64x256.size a := by decide

/-- A slot's block lies in the receive buffer. -/
theorem rInb : ∀ (s : Slot) a, rOff s a + S1x1x1x1x64x256.size a ≤ S2x2x3x2x64x256.size a := by decide

/-- A slot's semaphore lies in its array. -/
theorem mInb : ∀ (s : Slot) a, mOff s a + S1x1x1x1.size a ≤ S2x2x3x2.size a := by decide

/-- A chunk's rows lie in the result. -/
theorem oInb : ∀ (g h : Fin 2) a, oOff g h a + S64x256.size a ≤ S256x256.size a := by decide

/-- A cluster's block is whole words of the send buffer. -/
theorem sWords : ∀ q : Cl,
    (Rect.unit (s := S2x2x2x64x256) (sOff q) S1x1x1x64x256.size (sInb q)).WholeWords (EltTy.packing .bf16) := by decide

/-- A cluster's block is whole packed rows of the send buffer. -/
theorem sPacked : ∀ q : Cl,
    (Rect.unit (s := S2x2x2x64x256) (sOff q) S1x1x1x64x256.size (sInb q)).PackedRows (EltTy.packing .bf16) := by decide

/-- A slot's block is whole words of the receive buffer. -/
theorem rWords : ∀ s : Slot,
    (Rect.unit (s := S2x2x3x2x64x256) (rOff s) S1x1x1x1x64x256.size (rInb s)).WholeWords (EltTy.packing .bf16) := by decide

/-- A chunk's rows of the tokens. -/
theorem xSl : ∀ g h : Fin 2, S256x128.Slices (oOff g h) S64x128 := by decide

/-- A chunk's rows of a gate. -/
theorem gSl : ∀ g h : Fin 2, S256x1.Slices (oOff g h) S64x1 := by decide

/-- A cluster's block of the send buffer. -/
abbrev sRect (q : Cl) : Rect S2x2x2x64x256 := Rect.unit (s := S2x2x2x64x256) (sOff q) S1x1x1x64x256.size (sInb q)

/-- A slot's block of the receive buffer. -/
abbrev rRect (s : Slot) : Rect S2x2x3x2x64x256 := Rect.unit (s := S2x2x3x2x64x256) (rOff s) S1x1x1x1x64x256.size (rInb s)

/-- A chunk's rows of the result. -/
abbrev oRect (g h : Fin 2) : Rect S256x256 := Rect.unit (s := S256x256) (oOff g h) S64x256.size (oInb g h)

/-! ## The buffers and semaphores -/

/-- The send buffer. -/
abbrev sndM : Memref sig .tc .vmem S2x2x2x64x256 .bf16 := Memref.whole cc0_scratch0

/-- The receive buffer. -/
abbrev rcvM : Memref sig .tc .vmem S2x2x3x2x64x256 .bf16 := Memref.whole cc0_scratch1

/-- The staging buffer of the result. -/
abbrev outM : Memref sig .tc .vmem S256x256 .f32 := Memref.whole cc0_stg4_0

/-- The staging buffer of the experts' weights. -/
abbrev ewM : Memref sig .tc .vmem S2x128x256 .f32 := Memref.whole cc0_stg3_0

/-- A cluster's block, as the copies read it. -/
abbrev sndSq (q : Cl) : Memref sig .tc .vmem S64x256 .bf16 :=
  (sndM.slice (sRect q) (fun _ => rfl)).squeeze S64x256 Facts₀.squeezes_S1x1x1x64x256_S64x256

/-- A slot's block, as the copies write it. -/
abbrev rcvSq (s : Slot) : Memref sig .tc .vmem S64x256 .bf16 :=
  (rcvM.slice (rRect s) (fun _ => rfl)).squeeze S64x256 Facts₀.squeezes_S1x1x1x1x64x256_S64x256

/-- A slot's send semaphore. -/
def sSem (s : Slot) : DmaSem sig :=
  ((cc0_scratch2.slice (Rect.unit (s := S2x2x3x2) (mOff s) S1x1x1x1.size (mInb s))).squeeze S_ Facts₀.squeezes_S1x1x1x1_S_).sem

/-- A slot's receive semaphore. -/
def rSem (s : Slot) : DmaSem sig :=
  ((cc0_scratch3.slice (Rect.unit (s := S2x2x3x2) (mOff s) S1x1x1x1.size (mInb s))).squeeze S_ Facts₀.squeezes_S1x1x1x1_S_).sem

/-- The barrier semaphore. -/
def barS : Sem sig := ((SemArray.scalar (sig.barrier 0 rfl)) : Sems sig S_).sem

variable {F : FTy → Type} [FloatOps F]

/-! ## The values -/

/-- Device `c`'s number on the mesh, as the kernel computes it. -/
def word (c : Dev nD) : BitVec 32 := Scalar.remsi (Scalar.divsi (Dev.word c) 1#32) 16#32

/-- The gate of the device's first expert. -/
def gate0 (w : BitVec 32) (x : Vec F S256x128 .f32) (rw : Vec F S128x32 .f32) (i0 i1 : Vec F S256x1 .i32) : FVec F S256x1 .f32 :=
  k0_pay9 (k0_pay7 (F := F) w i0 i1) (k0_pay8 w (k0_pay2 x) rw i0 i1)

/-- The gate of the device's second expert. -/
def gate1 (w : BitVec 32) (x : Vec F S256x128 .f32) (rw : Vec F S128x32 .f32) (i0 i1 : Vec F S256x1 .i32) : FVec F S256x1 .f32 :=
  k0_pay10 w (k0_pay3 (k0_pay2 x) rw) (k0_pay4 (F := F) i0) (k0_pay5 (F := F) i1)
    (iota .tc S256x32 32 [1] Facts₀.iota_S256x32_d1_w32) (k0_pay6 (k0_pay2 x) rw i0 i1)

/-- One expert's gated product on a chunk's rows. -/
def term (g h : Fin 2) (x : FVec F S256x128 .f32) (ga : FVec F S256x1 .f32) (w : Vec F S1x128x256 .f32) : FVec F S64x256 .f32 :=
  mulf (broadcastTo S64x256 (extractStridedSlice S64x1 (oOff g h) ga (gSl g h)) Facts₀.broadcasts_S64x1_S64x256)
    (matmul dot_S64x128_S128x256_S64x256_1_0_0_1_n_n none (extractStridedSlice S64x128 (oOff g h) x (xSl g h))
      (shapeCast S128x256 w Facts₀.shapeCasts_S1x128x256_S128x256 : FVec F S128x256 .f32) (constant S64x256 .f32 0x00000000#32))

/-- Both experts' gated products on a chunk's rows, added. -/
def acc (g h : Fin 2) (x : FVec F S256x128 .f32) (ga gb : FVec F S256x1 .f32) (w0 w1 : Vec F S1x128x256 .f32) : FVec F S64x256 .f32 :=
  addf (term g h x ga w0) (term g h x gb w1)

/-- A block rounded for the copies, in the send buffer's shape. -/
def pack (v : FVec F S64x256 .f32) : FVec F S1x1x1x64x256 .bf16 :=
  shapeCast S1x1x1x64x256 (truncf .bf16 v Facts₀.bitsLt_bf16_f32) Facts₀.shapeCasts_S64x256_S1x1x1x64x256

/-- A received block added on. -/
def addR (v : FVec F S64x256 .f32) (r : Vec F S1x1x1x1x64x256 .bf16) : FVec F S64x256 .f32 :=
  addf v (extf .f32 (shapeCast S64x256 r Facts₀.shapeCasts_S1x1x1x1x64x256_S64x256 : FVec F S64x256 .bf16) Facts₀.bitsLt_bf16_f32)

/-- A block with the three received blocks added on, in order. -/
def addRs (v : Vec F S64x256 .f32) (r0 r1 r2 : Vec F S1x1x1x1x64x256 .bf16) : FVec F S64x256 .f32 :=
  addR (addR (addR (shapeCast S64x256 v Facts₀.shapeCasts_S64x256_S64x256) r0) r1) r2

/-! ## The program -/

/-- The programs of the kernel's TensorCore. -/
abbrev PG (F : FTy → Type) [FloatOps F] : Type 1 := Prog (TpuEff nD τ sig (Elt F) Λ₀ .tc) PUnit

/-- The copy of a cluster's block to one device's slot. -/
def sendP (s : Slot) (dv : Dev nD) (k : PG F) : PG F :=
  .op (.enqueueDma (sndSq s.1) (.remote (Dev.tc dv) (rcvSq s) (.dma (sSem s))) (.dma (rSem s))
    (((Memref.isWhole_whole _).wordExact_slice rfl _ (sWords s.1)).reshape _ _)
    (((Memref.isWhole_whole _).wordExact_slice rfl _ (rWords s)).reshape _ _) ⟨⟨rfl, Or.inl rfl⟩, trivial⟩) fun _ => k

/-- A cluster's three copies. -/
def sendsP (q : Cl) (d0 d1 d2 : Dev nD) (k : PG F) : PG F := sendP (q, 0) d0 (sendP (q, 1) d1 (sendP (q, 2) d2 k))

/-- A chunk's rows of the result replaced: the printed load before it reads nothing that is used. -/
def putP (g h : Fin 2) (v : FVec F S64x256 .f32) (k : PG F) : PG F :=
  .op (.load outM (oRect g h).toLoadRect (View.loadsAt_vmem Facts₀.h_S64x256)) fun _ =>
  .op (.store outM (oRect g h) v Finset.univ (View.stores_vmem_bits_univ Facts₀.h_S64x256 rfl) (.inl rfl)) fun _ => k

/-- A cluster's block filled with a value rounded. -/
def packP (q : Cl) (v : FVec F S64x256 .f32) (k : PG F) : PG F :=
  .op (.load sndM (sRect q).toLoadRect (View.loadsAt_vmem Facts₀.h_S1x1x1x64x256)) fun _ =>
  .op (.store sndM (sRect q) (pack v) Finset.univ
    (View.stores_vmem Facts₀.h_S1x1x1x64x256 ((Memref.isWhole_whole _).storeExact_slice rfl _ (sPacked q)) (fun _ => rfl)) (.inl rfl)) fun _ => k

/-- A chunk of the device's own product: computed, kept, and sent in the first phase. -/
def chunkP (g h : Fin 2) (x : FVec F S256x128 .f32) (ga gb : FVec F S256x1 .f32) (d0 d1 d2 : Dev nD) (k : PG F) : PG F :=
  .op (.load ewM (Rect.unit (s := S2x128x256) ![0, 0, 0] S1x128x256.size Facts₀.inb_S2x128x256_S1x128x256_0_0_0).toLoadRect
    (View.loadsAt_vmem Facts₀.h_S1x128x256)) fun w0 =>
  .op (.load ewM (Rect.unit (s := S2x128x256) ![1, 0, 0] S1x128x256.size Facts₀.inb_S2x128x256_S1x128x256_1_0_0).toLoadRect
    (View.loadsAt_vmem Facts₀.h_S1x128x256)) fun w1 =>
  putP g h (acc g h x ga gb w0 w1) (packP (g, 0, h) (acc g h x ga gb w0 w1) (sendsP (g, 0, h) d0 d1 d2 k))

/-- One partner's copy awaited: the device's own to it left, its to the device landed, and the landed block read. -/
def recvP (s : Slot) (k : Vec F S1x1x1x1x64x256 .bf16 → PG F) : PG F :=
  .op (.waitDma2 (sSem s) (rcvSq s) (sndSq s.1)
    (((Memref.isWhole_whole _).wordExact_slice rfl _ (rWords s)).reshape _ _)
    (((Memref.isWhole_whole _).wordExact_slice rfl _ (sWords s.1)).reshape _ _)) fun _ =>
  .op (.waitDma2 (rSem s) (sndSq s.1) (rcvSq s)
    (((Memref.isWhole_whole _).wordExact_slice rfl _ (sWords s.1)).reshape _ _)
    (((Memref.isWhole_whole _).wordExact_slice rfl _ (rWords s)).reshape _ _)) fun _ =>
  .op (.load rcvM (rRect s).toLoadRect (View.loadsAt_vmem Facts₀.h_S1x1x1x1x64x256)) k

/-- A cluster's three copies awaited and added onto the chunk's rows. -/
def gatherP (q : Cl) (k : FVec F S64x256 .f32 → PG F) : PG F :=
  .op (.load outM (oRect q.1 q.2.2).toLoadRect (View.loadsAt_vmem Facts₀.h_S64x256)) fun v =>
  recvP (q, 0) fun r0 => recvP (q, 1) fun r1 => recvP (q, 2) fun r2 =>
  putP q.1 q.2.2 (addRs v r0 r1 r2) (k (addRs v r0 r1 r2))

/-- A chunk's first exchange finished and its second begun. -/
def relayP (g h : Fin 2) (d0 d1 d2 : Dev nD) (k : PG F) : PG F :=
  gatherP (g, 0, h) fun v => packP (g, 1, h) v (sendsP (g, 1, h) d0 d1 d2 k)

/-- One partner's barrier semaphore raised. -/
def sigP (dv : Dev nD) (k : PG F) : PG F := .op (.semSignal (dv, .tc) barS (1#32).toInt) fun _ => k

/-- The exchange, from the gates on. -/
def exchP (c : Dev nD) (x : FVec F S256x128 .f32) (ga gb : FVec F S256x1 .f32) : PG F :=
  .op (.semWait barS (6#32).toInt) fun _ =>
  chunkP 0 0 x ga gb ⟨k0_dev7 c, Facts₀.k0_dev7_lt c⟩ ⟨k0_dev8 c, Facts₀.k0_dev8_lt c⟩ ⟨k0_dev9 c, Facts₀.k0_dev9_lt c⟩ <|
  chunkP 1 0 x ga gb ⟨k0_dev10 c, Facts₀.k0_dev10_lt c⟩ ⟨k0_dev11 c, Facts₀.k0_dev11_lt c⟩ ⟨k0_dev12 c, Facts₀.k0_dev12_lt c⟩ <|
  chunkP 0 1 x ga gb ⟨k0_dev13 c, Facts₀.k0_dev13_lt c⟩ ⟨k0_dev14 c, Facts₀.k0_dev14_lt c⟩ ⟨k0_dev15 c, Facts₀.k0_dev15_lt c⟩ <|
  chunkP 1 1 x ga gb ⟨k0_dev16 c, Facts₀.k0_dev16_lt c⟩ ⟨k0_dev17 c, Facts₀.k0_dev17_lt c⟩ ⟨k0_dev18 c, Facts₀.k0_dev18_lt c⟩ <|
  relayP 0 0 ⟨k0_dev19 c, Facts₀.k0_dev19_lt c⟩ ⟨k0_dev20 c, Facts₀.k0_dev20_lt c⟩ ⟨k0_dev21 c, Facts₀.k0_dev21_lt c⟩ <|
  relayP 1 0 ⟨k0_dev22 c, Facts₀.k0_dev22_lt c⟩ ⟨k0_dev23 c, Facts₀.k0_dev23_lt c⟩ ⟨k0_dev24 c, Facts₀.k0_dev24_lt c⟩ <|
  relayP 0 1 ⟨k0_dev25 c, Facts₀.k0_dev25_lt c⟩ ⟨k0_dev26 c, Facts₀.k0_dev26_lt c⟩ ⟨k0_dev27 c, Facts₀.k0_dev27_lt c⟩ <|
  relayP 1 1 ⟨k0_dev28 c, Facts₀.k0_dev28_lt c⟩ ⟨k0_dev29 c, Facts₀.k0_dev29_lt c⟩ ⟨k0_dev30 c, Facts₀.k0_dev30_lt c⟩ <|
  gatherP (0, 1, 0) fun _ => gatherP (1, 1, 0) fun _ => gatherP (0, 1, 1) fun _ => gatherP (1, 1, 1) fun _ => .ret ⟨⟩

/-- The whole body. -/
def bodyP : PG F :=
  .op .deviceId fun c =>
  sigP ⟨k0_dev1 c, Facts₀.k0_dev1_lt c⟩ <| sigP ⟨k0_dev2 c, Facts₀.k0_dev2_lt c⟩ <| sigP ⟨k0_dev3 c, Facts₀.k0_dev3_lt c⟩ <|
  sigP ⟨k0_dev4 c, Facts₀.k0_dev4_lt c⟩ <| sigP ⟨k0_dev5 c, Facts₀.k0_dev5_lt c⟩ <| sigP ⟨k0_dev6 c, Facts₀.k0_dev6_lt c⟩ <|
  .op (.load (Memref.whole cc0_stg0_0) (Rect.unit (s := S256x128) ![0, 0] S256x128.size Facts₀.inb_S256x128_S256x128_0_0).toLoadRect
    (View.loadsAt_vmem Facts₀.h_S256x128)) fun x =>
  .op (.load (Memref.whole cc0_stg1_0) (Rect.unit (s := S128x32) ![0, 0] S128x32.size Facts₀.inb_S128x32_S128x32_0_0).toLoadRect
    (View.loadsAt_vmem Facts₀.h_S128x32)) fun rw =>
  .op (.load (Memref.whole cc0_stg2_0) (Rect.unit (s := S256x2) ![0, 0] S256x1.size Facts₀.inb_S256x2_S256x1_0_0).toLoadRect
    (View.loadsAt_vmem Facts₀.h_S256x1)) fun i0 =>
  .op (.load (Memref.whole cc0_stg2_0) (Rect.unit (s := S256x2) ![0, 1] S256x1.size Facts₀.inb_S256x2_S256x1_0_1).toLoadRect
    (View.loadsAt_vmem Facts₀.h_S256x1)) fun i1 =>
  exchP c (k0_pay2 x) (gate0 (word c) x rw i0 i1) (gate1 (word c) x rw i0 i1)

set_option maxRecDepth 65536 in
/-- The printed body is the composed one. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) cc0_scratch2 cc0_scratch3 = bodyP := by
  rw [cc0_body_eq_skeleton]
  rfl

end Cert.Moe

end
-- ==== Proof.Proto.lean ====
/-
The exchange's protocol: which device pairs with which, what every block holds, and the schedule of the semaphores.

Device `c` exchanges with the devices `c xor m`. In the PLANE pass the masks are 1, 3, 2, in the LINE pass 4, 8, 12;
chunks with `g = 0` make the plane pass first, those with `g = 1` the line pass first. Every semaphore carries one
round: a barrier cell six unit duties, one per mask, each handing over the four landing blocks the payer will be written
in; a send cell the share of the sent block; a receive cell the landed block.
-/
module

public import proofs.«01_k».proof.Proof.Struct
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Tactic

@[expose] public section

set_option synthInstance.maxSize 4096

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The names of a barrier cell's duties: the six masks. The other cells use the name `0`. -/
abbrev D : Type := Fin 6

/-- The exchange's copy of the rounds algebra. -/
abbrev UB : Type := URounds (GSem nD τ sig) D

/-- The pipeline library's copy beside the exchange's. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL

/-- The exchange's part of the ghost state. -/
abbrev ER : Emb UB (MT nD τ sig Unit (Elt F) ℕ UU ℕ) := embR

/-! ## Partners -/

/-- The masks, in the order of the barrier's signals. -/
def mk : Fin 6 → Nat := ![1, 3, 2, 4, 8, 12]

set_option backward.proofsInPublic true in
/-- The partner of `c` by a mask. -/
def pt (c : Dev nD) (d : Fin 6) : Dev nD := ⟨(c.val ^^^ mk d) % 16, Nat.mod_lt _ (by decide)⟩

/-- Pairing is mutual. -/
theorem pt_pt : ∀ (c : Dev nD) (d : Fin 6), pt (pt c d) d = c := by decide +kernel

/-- The mask of a slot. -/
def mi (s : Slot) : Fin 6 := if s.1.1 = s.1.2.1 then Fin.castAdd 3 s.2 else Fin.natAdd 3 s.2

/-- The slot a mask has in chunk `(g, h)`. -/
def sl (d : Fin 6) (gh : Fin 2 × Fin 2) : Slot :=
  ((gh.1, if d.val < 3 then gh.1 else 1 - gh.1, gh.2), ⟨d.val % 3, Nat.mod_lt _ (by decide)⟩)

/-- Masks and chunks name the slots once each. -/
def se : Fin 6 × (Fin 2 × Fin 2) ≃ Slot where
  toFun x := sl x.1 x.2
  invFun s := (mi s, (s.1.1, s.1.2.2))
  left_inv := by decide
  right_inv := by decide

/-- The mask of a mask's slot. -/
theorem mi_se : ∀ x, mi (se x) = x.1 := by decide

/-! ## The cells -/

/-- The exchange's semaphores: the barrier, the send semaphores and the receive semaphores. -/
abbrev CK : Type := Unit ⊕ (Slot ⊕ Slot)

/-- The place of a slot among 24. -/
def fl (s : Slot) : Nat := ((s.1.1.val * 2 + s.1.2.1.val) * 3 + s.2.val) * 2 + s.1.2.2.val

/-- The slots' places are different. -/
theorem fl_inj : ∀ s s' : Slot, fl s = fl s' → s = s' := by decide

/-- The slots' places are below 24. -/
theorem fl_lt : ∀ s : Slot, fl s < 24 := by decide

/-- A send semaphore's number. -/
theorem sSem_val : ∀ s : Slot, (sSem s).val = 5 + fl s := by decide +kernel

/-- A receive semaphore's number. -/
theorem rSem_val : ∀ s : Slot, (rSem s).val = 29 + fl s := by decide +kernel

/-- An exchange semaphore's place. -/
def csem : CK → SemLoc sig
  | .inl _ => .reg barS
  | .inr (.inl s) => .dma (sSem s)
  | .inr (.inr s) => .dma (rSem s)

/-- The places are different. -/
theorem csem_inj : Function.Injective csem := by
  rintro (u | s | s) (u' | s' | s') h
  · rfl
  · cases h
  · cases h
  · cases h
  · have := congrArg Fin.val (SemLoc.dma.inj h)
    rw [sSem_val, sSem_val] at this
    rw [fl_inj s s' (by omega)]
  · have := congrArg Fin.val (SemLoc.dma.inj h)
    rw [sSem_val, rSem_val] at this
    have := fl_lt s; omega
  · cases h
  · have := congrArg Fin.val (SemLoc.dma.inj h)
    rw [sSem_val, rSem_val] at this
    have := fl_lt s'; omega
  · have := congrArg Fin.val (SemLoc.dma.inj h)
    rw [rSem_val, rSem_val] at this
    rw [fl_inj s s' (by omega)]

open Classical in
/-- Which of the exchange's semaphores a place is, if any. -/
def kindOf (sm : SemLoc sig) : Option CK := if h : ∃ k, csem k = sm then some h.choose else none

/-- An exchange semaphore's place is recognised. -/
theorem kindOf_csem (k : CK) : kindOf (csem k) = some k := by
  unfold kindOf
  rw [dif_pos ⟨k, rfl⟩]
  exact congrArg some (csem_inj (Exists.choose_spec (⟨k, rfl⟩ : ∃ k', csem k' = csem k)))

/-- A place none of the exchange's semaphores has. -/
theorem kindOf_none {sm : SemLoc sig} (h : ∀ k, csem k ≠ sm) : kindOf sm = none := by
  unfold kindOf
  exact dif_neg fun ⟨k, hk⟩ => h k hk

/-- Device `c`'s barrier cell. -/
abbrev barC (c : Dev nD) : GSem nD τ sig := ((c : Thread nD τ), .reg barS)

/-- Device `c`'s send cell of a slot. -/
abbrev sndC (c : Dev nD) (s : Slot) : GSem nD τ sig := ((c : Thread nD τ), .dma (sSem s))

/-- Device `c`'s receive cell of a slot. -/
abbrev rcvC (c : Dev nD) (s : Slot) : GSem nD τ sig := ((c : Thread nD τ), .dma (rSem s))

/-- A cell by its device and which. -/
abbrev kcell (ck : Dev nD × CK) : GSem nD τ sig := ((ck.1 : Thread nD τ), csem ck.2)

/-- The credit of one block's copy. -/
def N : ℕ := (sndSq (0, 0, 0)).view.dmaCredit

/-- A block's copy credits something. -/
theorem N_pos : 0 < N := View.dmaCredit_pos _ (by decide)

/-! ## The blocks' contents -/

/-- A rounded block added on. -/
def addY (v : FVec F S64x256 .f32) (y : FVec F S64x256 .bf16) : FVec F S64x256 .f32 := addf v (extf .f32 y Facts₀.bitsLt_bf16_f32)

/-- A block rounded. -/
def rnd (v : FVec F S64x256 .f32) : FVec F S64x256 .bf16 := truncf .bf16 v Facts₀.bitsLt_bf16_f32

variable (A : Dev nD → Fin 2 → Fin 2 → FVec F S64x256 .f32)

/-- A cluster's block on a device, given the phase's blocks before it: the three partners' rounded blocks added on. -/
def stepV (V : Dev nD → FVec F S64x256 .f32) (g p h : Fin 2) (c : Dev nD) : FVec F S64x256 .f32 :=
  addY (addY (addY (V c) (rnd (V (pt c (mi ((g, p, h), 0)))))) (rnd (V (pt c (mi ((g, p, h), 1)))))) (rnd (V (pt c (mi ((g, p, h), 2)))))

/-- A chunk's block after the first phase. -/
def midV (g h : Fin 2) : Dev nD → FVec F S64x256 .f32 := stepV (fun c => A c g h) g 0 h

/-- A chunk's block after both phases. -/
def finV (g h : Fin 2) : Dev nD → FVec F S64x256 .f32 := stepV (midV A g h) g 1 h

/-- The block a cluster starts from. -/
def preV (c : Dev nD) (q : Cl) : FVec F S64x256 .f32 := if q.2.1 = 0 then A c q.1 q.2.2 else midV A q.1 q.2.2 c

/-- The block a cluster sends. -/
def bval (c : Dev nD) (q : Cl) : FVec F S64x256 .bf16 := rnd (preV A c q)

/-- The block a slot is given. -/
def rval (c : Dev nD) (s : Slot) : FVec F S64x256 .bf16 := bval A (pt c (mi s)) s.1

/-- The block a cluster ends with. -/
def postV (c : Dev nD) (q : Cl) : FVec F S64x256 .f32 := stepV (fun e => preV A e q) q.1 q.2.1 q.2.2 c

/-! ## The schedule -/

/-- The share of a sent block that one copy reads. -/
def sh : Fin 3 → PosShare TreeShare := ![fullShare.left, fullShare.right.left, fullShare.right.right]

/-- A landing block, holding anything. -/
def slotAny (c : Dev nD) (s : Slot) : sProp 𝕄 := iprop(∃ X, owns (c : Thread nD τ) (rcvSq s) fullShare X)

/-- What the partner by mask `d` hands `c`: its four landing blocks that `c` writes. -/
def barPay (c : Dev nD) (d : D) : sProp 𝕄 := bigSep Finset.univ fun gh : Fin 2 × Fin 2 => slotAny (F := F) (pt c d) (se (d, gh))

/-- What a landed copy gives back: the share of the sent block. -/
def sndPay (c : Dev nD) (s : Slot) : sProp 𝕄 := owns (c : Thread nD τ) (sndSq s.1) (sh s.2) (bval A c s.1)

/-- What a landed copy gives: the partner's block. -/
def rcvPay (c : Dev nD) (s : Slot) : sProp 𝕄 := owns (c : Thread nD τ) (rcvSq s) fullShare (rval A c s)

/-- The payloads by cell. -/
def payK (c : Dev nD) : Option CK → D → sProp 𝕄
  | some (.inl _), d => barPay c d
  | some (.inr (.inl s)), _ => sndPay A c s
  | some (.inr (.inr s)), _ => rcvPay A c s
  | none, _ => iprop(emp)

/-- What a cell's duty hands over can be stored. -/
instance payK_storable (c : Dev nD) (k : Option CK) (d : D) : BI.Storable (upEmb : UEmb _ 𝕄) (payK A c k d) := by
  rcases k with _ | (u | s | s) <;> unfold payK
  · infer_instance
  · unfold barPay slotAny; infer_instance
  · unfold sndPay; infer_instance
  · unfold rcvPay; infer_instance

/-- The duties by cell. -/
def dutK : Option CK → Finset D
  | some (.inl _) => Finset.univ
  | some (.inr _) => {0}
  | none => ∅

/-- The amounts by cell. -/
def amtK : Option CK → ℕ
  | some (.inl _) => 1
  | _ => N

/-- The schedule: one round on every exchange cell. -/
def Rd : Rounds.Schedule (GSem nD τ sig) D 𝕄 where
  duties g r := if r = 0 ∧ g.1.2 = .tc then dutK (kindOf g.2) else ∅
  unitless _ := False
  amount g _ _ := amtK (kindOf g.2)
  payload g _ d := payK A g.1.1 (kindOf g.2) d
  amount_pos g _ _ _ := by
    rcases kindOf g.2 with _ | (u | s)
    · exact N_pos
    · exact Nat.one_pos
    · exact N_pos

/-- What a duty hands over can be stored. -/
instance Rd_payload_storable (g : GSem nD τ sig) (r : ℕ) (d : D) :
    BI.Storable (upEmb : UEmb _ 𝕄) ((Rd (F := F) A).payload g r d) := by
  show BI.Storable upEmb (payK A g.1.1 (kindOf g.2) d)
  infer_instance

section Sched
variable (c : Dev nD) (s : Slot)

/-- A cell's duties in its one round. -/
theorem duties_k (k : CK) : (Rd A).duties (kcell (c, k)) 0 = dutK (some k) := by
  dsimp only [Rd]
  rw [if_pos ⟨rfl, rfl⟩, kindOf_csem]
/-- The barrier's duties: one per partner. -/
theorem duties_bar : (Rd A).duties (barC c) 0 = Finset.univ := duties_k A c (.inl ())
/-- A sending semaphore's one duty. -/
theorem duties_snd : (Rd A).duties (sndC c s) 0 = {0} := duties_k A c (.inr (.inl s))
/-- A receiving semaphore's one duty. -/
theorem duties_rcv : (Rd A).duties (rcvC c s) 0 = {0} := duties_k A c (.inr (.inr s))
/-- After the first round no cell has a duty. -/
theorem duties_later (g : GSem nD τ sig) : ∀ r, 1 ≤ r → (Rd A).duties g r = ∅ :=
  fun r hr => if_neg fun h => absurd h.1 (by omega)

/-- A partner pays the barrier one. -/
theorem amount_bar (d : D) : (Rd A).amount (barC c) 0 d = 1 := by
  show amtK (kindOf (csem (.inl ()))) = _; rw [kindOf_csem]; rfl
/-- A copy's departure pays its size. -/
theorem amount_snd (d : D) : (Rd A).amount (sndC c s) 0 d = N := by
  show amtK (kindOf (csem (.inr (.inl s)))) = _; rw [kindOf_csem]; rfl
/-- A copy's arrival pays its size. -/
theorem amount_rcv (d : D) : (Rd A).amount (rcvC c s) 0 d = N := by
  show amtK (kindOf (csem (.inr (.inr s)))) = _; rw [kindOf_csem]; rfl

/-- The barrier's round is complete at six. -/
theorem expect_bar : (Rd A).expect (barC c) 0 = 6 := by
  unfold Schedule.expect Schedule.amountOf
  rw [duties_bar, Finset.sum_congr rfl fun d _ => amount_bar A c d]; rfl
/-- A sending semaphore's round is complete at one copy's size. -/
theorem expect_snd : (Rd A).expect (sndC c s) 0 = N := by
  unfold Schedule.expect Schedule.amountOf; rw [duties_snd, Finset.sum_singleton, amount_snd]
/-- A receiving semaphore's round is complete at one copy's size. -/
theorem expect_rcv : (Rd A).expect (rcvC c s) 0 = N := by
  unfold Schedule.expect Schedule.amountOf; rw [duties_rcv, Finset.sum_singleton, amount_rcv]

/-- What a partner hands over with its barrier signal. -/
theorem payload_bar (d : D) : (Rd A).payload (barC c) 0 d = barPay c d := by
  show payK A c (kindOf (csem (.inl ()))) d = _; rw [kindOf_csem]; rfl
/-- What a copy's departure hands back. -/
theorem payload_snd (d : D) : (Rd A).payload (sndC c s) 0 d = sndPay A c s := by
  show payK A c (kindOf (csem (.inr (.inl s)))) d = _; rw [kindOf_csem]; rfl
/-- What a copy's arrival hands over. -/
theorem payload_rcv (d : D) : (Rd A).payload (rcvC c s) 0 d = rcvPay A c s := by
  show payK A c (kindOf (csem (.inr (.inr s)))) d = _; rw [kindOf_csem]; rfl

/-- A whole barrier round hands over all the landing blocks the device writes. -/
theorem rest_bar : bigSep ((Rd A).duties (barC c) 0 \ ∅) (fun d => (Rd A).payload (barC c) 0 d)
    = bigSep Finset.univ fun s : Slot => slotAny (F := F) (pt c (mi s)) s := by
  rw [Finset.sdiff_empty, duties_bar, bigSep_congr fun d _ => payload_bar A c d, bigSep_univ_equiv se]
  unfold barPay
  rw [bigSep_univ_prod]
  exact bigSep_congr fun d _ => bigSep_congr fun gh _ => by rw [mi_se]
/-- All that a sending semaphore's round hands over. -/
theorem rest_snd : bigSep ((Rd A).duties (sndC c s) 0 \ ∅) (fun d => (Rd A).payload (sndC c s) 0 d) = sndPay A c s := by
  rw [Finset.sdiff_empty, duties_snd, bigSep_singleton, payload_snd]
/-- All that a receiving semaphore's round hands over. -/
theorem rest_rcv : bigSep ((Rd A).duties (rcvC c s) 0 \ ∅) (fun d => (Rd A).payload (rcvC c s) 0 d) = rcvPay A c s := by
  rw [Finset.sdiff_empty, duties_rcv, bigSep_singleton, payload_rcv]

end Sched

/-! ## Levels and what is owed -/

/-- A TensorCore's cells carry levels. -/
def L (g : GSem nD τ sig) : Finset Unit := if g.1.2 = .tc then {()} else ∅

/-- The levels by cell: barrier cells 1, receive cells 2 in the first phase and 3 in the second, all others 0. -/
def lvK : Option CK → ℕ
  | some (.inl _) => 1
  | some (.inr (.inr s)) => 2 + s.1.2.1.val
  | _ => 0

/-- The levels. -/
def lv (g : GSem nD τ sig) (_ : Unit) : ℕ := lvK (kindOf g.2)

/-- A thread other than the main core's has no level. -/
theorem L_of_ne (g : GSem nD τ sig) (h : g.1.2 ≠ .tc) : L g = ∅ := if_neg h

/-- The main core's semaphores have one level index. -/
theorem L_tc (c : Dev nD) (sm : SemLoc sig) : L ((c : Thread nD τ), sm) = {()} := if_pos rfl

/-- Everything owed is owed to TensorCore cells of level above `n`. -/
def Above (n : ℕ) (O : CellTallies nD τ sig Unit) : Prop := ∀ g u, 0 < O g u → L g = {()} ∧ n < lv g ()

/-- Owing nothing is above every level. -/
theorem above_zero (n : ℕ) : Above n 0 := fun g u h => absurd h (Nat.lt_irrefl 0)

/-- What is above a level in two parts is above it together. -/
theorem above_add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)

/-- A debt to a cell of a higher level is above a lower level. -/
theorem above_tally {n : ℕ} (ck : Dev nD × CK) (k : ℕ) (h : n < lvK (some ck.2)) : Above n (tallyAt (kcell ck) () k) := fun g u hg => by
  rw [tallyAt_apply] at hg
  by_cases h' : g = kcell ck ∧ u = ()
  · rw [h'.1]
    refine ⟨L_tc _ _, ?_⟩
    show n < lvK (kindOf (csem ck.2))
    rwa [kindOf_csem]
  · rw [if_neg h'] at hg; exact absurd hg (Nat.lt_irrefl 0)

/-- A wait on a cell of level at most `n` is allowed while all that is owed lies above `n`. -/
theorem mayWait_above (c : Dev nD) (sm : SemLoc sig) (n : ℕ) (hn : lvK (kindOf sm) ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [(hO g u hg).1]; exact Finset.mem_singleton_self _)
    (fun p hp => by rw [Finset.mem_singleton.mp hp]; exact hn)
    (fun g u hg => (hO g u hg).2)

/-- What a device owes for the copies still to be sent. -/
def owedS (c : Dev nD) : List Slot → CellTallies nD τ sig Unit
  | [] => 0
  | s :: l => owedS c l + tallyAt (rcvC (pt c (mi s)) s) () N

/-- What a device owes for the signals still to be sent, above the copies. -/
def owedB (c : Dev nD) (l : List Slot) : List (Fin 6) → CellTallies nD τ sig Unit
  | [] => owedS c l
  | d :: ds => owedB c l ds + tallyAt (barC (pt c d)) () 1

/-- A cluster's three slots before a list. -/
def q3 (q : Cl) (l : List Slot) : List Slot := (q, 0) :: (q, 1) :: (q, 2) :: l

/-- The second phase's slots in the order sent. -/
def sOrd1 : List Slot := q3 (0, 1, 0) (q3 (1, 1, 0) (q3 (0, 1, 1) (q3 (1, 1, 1) [])))

/-- The slots in the order sent. -/
def sOrd : List Slot := q3 (0, 0, 0) (q3 (1, 0, 0) (q3 (0, 0, 1) (q3 (1, 0, 1) sOrd1)))

/-- What a device owes at launch. -/
def O₀ (c : Dev nD) : CellTallies nD τ sig Unit := owedB c sOrd [0, 1, 2, 3, 4, 5]

/-- What is owed for slots is above a level below their phases'. -/
theorem above_owedS (c : Dev nD) {n : ℕ} : ∀ {l : List Slot}, (∀ s ∈ l, n < 2 + s.1.2.1.val) → Above n (owedS c l)
  | [], _ => above_zero n
  | s :: l, h => above_add (above_owedS c fun s' hs => h s' (List.mem_cons_of_mem _ hs))
      (above_tally (pt c (mi s), .inr (.inr s)) N (h s List.mem_cons_self))

/-- What is owed with the barrier signals is above level zero. -/
theorem above_owedB (c : Dev nD) {l : List Slot} : ∀ {ds : List (Fin 6)}, Above 0 (owedB c l ds)
  | [] => above_owedS c fun s _ => by omega
  | d :: ds => above_add (above_owedB c) (above_tally (pt c d, .inl ()) 1 Nat.one_pos)

end Cert.Moe

end
-- ==== Proof.Steps.lean ====
/-
One lemma for each piece of the body: a copy sent, a cluster's three copies, a block stored, a partner's copy awaited, a
cluster gathered, and the chunk and relay made of these. Each takes the resources of its own slots and what is owed, and
gives them back advanced.
-/
module

public import proofs.«01_k».proof.Proof.Proto

@[expose] public section

set_option synthInstance.maxSize 4096

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No variants are used. -/
abbrev 𝒱₀ : Variants := Variants.none

/-- A program's weakest precondition on device `c`'s TensorCore. -/
abbrev WP (c : Dev nD) (P : PG F) (Q : PUnit.{1} → sProp 𝕄) : sProp 𝕄 :=
  wp frame (wpE (defs₀ (F := F)) 𝒱₀ (c : Thread nD τ) none) Set.univ P Q

variable (A : Dev nD → Fin 2 → Fin 2 → FVec F S64x256 .f32) (K : Dev nD × CK → ℕ)

/-- What every device knows throughout: the levels, and of every exchange cell its invariant and that its round is reached. -/
def recs : sProp 𝕄 :=
  iprop(levAts L lv ∗ bigSep Finset.univ fun ck => iprop(cellInv ER (Rd A) (K ck) (kcell ck) ∗ reached ER (kcell ck) 0))

/-- The records can be used again and again. -/
instance recs_persistent : BI.Persistent (recs A K) := by unfold recs; infer_instance

/-- Every cell's invariant is known. -/
theorem recs_inv (ck : Dev nD × CK) : recs A K ⊢ cellInv ER (Rd A) (K ck) (kcell ck) := by
  unfold recs
  exact (sep_elim_right.trans (BI.bigSep_elim (Finset.mem_univ ck))).trans sep_elim_left

/-- Every cell's round is reached. -/
theorem recs_reached (ck : Dev nD × CK) : recs A K ⊢ reached ER (kcell ck) 0 := by
  unfold recs
  exact (sep_elim_right.trans (BI.bigSep_elim (Finset.mem_univ ck))).trans sep_elim_right

/-- What a device owes, with whatever waits it has made. -/
def owesAny (c : Dev nD) (O : CellTallies nD τ sig Unit) : sProp 𝕄 := iprop(∃ W, owes (c : Thread nD τ) O W)

/-- What a copy into a slot needs before it is sent. -/
def preS (c : Dev nD) (s : Slot) : sProp 𝕄 :=
  iprop(slotAny (pt c (mi s)) s ∗ dutyTok ER (sndC c s) 0 0 ∗ dutyTok ER (rcvC (pt c (mi s)) s) 0 0)

/-- The right to await a slot's own copy once sent. -/
def sentS (c : Dev nD) (s : Slot) : sProp 𝕄 := cred (tallyAt (sndC c s) () N)

/-- What awaiting a slot needs beside that. -/
def gathS (c : Dev nD) (s : Slot) : sProp 𝕄 :=
  iprop(atPos ER (sndC c s) 0 ∅ 0 ∗ atPos ER (rcvC c s) 0 ∅ 0 ∗ cred (tallyAt (rcvC c s) () N))

/-- What a slot leaves when done. -/
def doneS (c : Dev nD) (s : Slot) : sProp 𝕄 :=
  iprop(sndPay A c s ∗ slotAny c s ∗ semVal (sndC c s) 0 ∗ semVal (rcvC c s) 0)

/-- An assertion of a cluster's three slots. -/
def tri (Φ : Slot → sProp 𝕄) (q : Cl) : sProp 𝕄 := iprop(Φ (q, 0) ∗ Φ (q, 1) ∗ Φ (q, 2))

/-- A chunk's rows of the result, at a value. -/
def outAt (c : Dev nD) (g h : Fin 2) (v : FVec F S64x256 .f32) : sProp 𝕄 :=
  owns (c : Thread nD τ) (outM.slice (oRect g h) (fun _ => rfl)) fullShare v

/-- A chunk's rows of the result, holding anything. -/
def outAny (c : Dev nD) (g h : Fin 2) : sProp 𝕄 := iprop(∃ v, outAt (F := F) c g h v)

/-- A cluster's block of the send buffer, holding anything. -/
def sndAny (c : Dev nD) (q : Cl) : sProp 𝕄 := iprop(∃ X, owns (c : Thread nD τ) (sndSq q) fullShare X)

section Steps
variable (c : Dev nD) (Q : PUnit.{1} → sProp (MT nD τ sig Unit (Elt F) ℕ UU ℕ)) (k : PG F)

/-- A landing block's copy credits the common amount. -/
theorem rcv_credit (s : Slot) : (rcvSq s).view.dmaCredit = N := by unfold N View.dmaCredit; rfl

/-- A sent block's wait takes the common amount. -/
theorem snd_credit (q : Cl) : (sndSq q).view.dmaCredit = N := by unfold N View.dmaCredit; rfl

set_option maxHeartbeats 100000 in
/-- What a sent block gives back when its copy has landed. -/
theorem snd_pay (s : Slot) (fs : Buf (Elt F) ((sndSq s.1).view.loc (c : Thread nD τ))) (h : (sndSq s.1).view.read (Elt F) fs = bval A c s.1) :
    ((sndSq s.1).view.loc (c : Thread nD τ) ↦[(sndSq s.1).view.set]{sh s.2} fs : sProp 𝕄) ⊢ (Rd A).payload (sndC c s) 0 0 := by
  rw [payload_snd]; unfold sndPay
  refine (owns_intro (c : Thread nD τ) (sndSq s.1) (sh s.2) fs).trans ?_
  rw [h]

set_option maxHeartbeats 100000 in
/-- What a landing block holds when a copy has landed. -/
theorem rcv_pay (s : Slot) (fs : Buf (Elt F) ((sndSq s.1).view.loc (c : Thread nD τ))) (h : (sndSq s.1).view.read (Elt F) fs = bval A c s.1)
    (fd : Buf (Elt F) ((rcvSq s).view.loc (pt c (mi s) : Thread nD τ))) :
    ((rcvSq s).view.loc (pt c (mi s) : Thread nD τ) ↦[(rcvSq s).view.set]{fullShare}
      ((rcvSq s).view.write (Elt F) fd ((sndSq s.1).view.read (Elt F) fs) Finset.univ) : sProp 𝕄) ⊢ (Rd A).payload (rcvC (pt c (mi s)) s) 0 0 := by
  rw [payload_rcv]; unfold rcvPay
  refine (owns_intro (pt c (mi s) : Thread nD τ) (rcvSq s) fullShare _).trans ?_
  rw [View.read_write_univ, h]
  unfold rval; rw [pt_pt]

set_option maxHeartbeats 400000 in
/-- The library's rule for an addressed copy, at a slot's copy. -/
theorem wp_send_raw (s : Slot) (O : CellTallies nD τ sig Unit) (W : Waits sig Unit)
    (fs : Buf (Elt F) ((sndSq s.1).view.loc (c : Thread nD τ))) (hfs : (sndSq s.1).view.read (Elt F) fs = bval A c s.1)
    (fd : Buf (Elt F) ((rcvSq s).view.loc (pt c (mi s) : Thread nD τ))) :
    iprop(cellInv ER (Rd A) (K (c, .inr (.inl s))) (sndC c s) ∗ cellInv ER (Rd A) (K (pt c (mi s), .inr (.inr s))) (rcvC (pt c (mi s)) s)
        ∗ ((sndSq s.1).view.loc (c : Thread nD τ) ↦[(sndSq s.1).view.set]{sh s.2} fs)
        ∗ ((rcvSq s).view.loc (pt c (mi s) : Thread nD τ) ↦[(rcvSq s).view.set]{fullShare} fd)
        ∗ owes (c : Thread nD τ) (O + tallyAt (rcvC (pt c (mi s)) s) () N) W
        ∗ dutyTok ER (sndC c s) 0 0 ∗ reached ER (sndC c s) 0
        ∗ dutyTok ER (rcvC (pt c (mi s)) s) 0 0 ∗ reached ER (rcvC (pt c (mi s)) s) 0)
      ⊢ iprop(((cred (tallyAt (sndC c s) () N) ∗ owes (c : Thread nD τ) O W) -∗ WP c k Q) -∗ WP c (sendP s (pt c (mi s)) k) Q) := by
  unfold WP sendP
  have e1 : (0 : D) ∈ (Rd A).duties (sndC c s) 0 := by rw [duties_snd]; exact Finset.mem_singleton_self _
  have e2 : (0 : D) ∈ (Rd A).duties (rcvC (pt c (mi s)) s) 0 := by rw [duties_rcv]; exact Finset.mem_singleton_self _
  have hr : τ.routes (c : Thread nD τ) (pt c (mi s) : Thread nD τ) = true := by routes
  exact Rounds.wp_send_pointsTo 𝒱₀ ER (Rd A) (c : Thread nD τ) none (c' := (pt c (mi s) : Thread nD τ)) (src := sndSq s.1) (dst := rcvSq s)
    (sS := .dma (sSem s)) (sem := .dma (rSem s)) (κ₁ := K (c, .inr (.inl s))) (κ₂ := K (pt c (mi s), .inr (.inr s)))
    (r₁ := 0) (r₂ := 0) (d₁ := 0) (d₂ := 0) (fs := fs) (fd := fd) e1 e2
    () () N (rcv_credit s) (amount_snd A c s 0) (amount_rcv A (pt c (mi s)) s 0) O rfl (W := W)
    (k := fun _ => k) (snd_pay A c s fs hfs) (rcv_pay A c s fs hfs fd) hr

/-- A whole block is the three shares its copies read. -/
theorem snd_thirds (q : Cl) : (owns (c : Thread nD τ) (sndSq q) fullShare (bval A c q) : sProp 𝕄) ⊣⊢ tri (sndPay A c) q :=
  by
  unfold tri sndPay
  have h1 : (owns (c : Thread nD τ) (sndSq q) fullShare (bval A c q) : sProp 𝕄) ⊣⊢ _ := owns_halves _ _ _ _
  have h2 : (owns (c : Thread nD τ) (sndSq q) fullShare.right (bval A c q) : sProp 𝕄) ⊣⊢ _ := owns_halves _ _ _ _
  exact h1.trans (sep_congr .rfl h2)

/-- One copy sent: its slot's resources and its debt paid, the right to await it gained. -/
theorem wp_send (s : Slot) (O : CellTallies nD τ sig Unit) (dv : Dev nD) (hd : dv = pt c (mi s)) :
    iprop(recs A K ∗ owesAny c (O + tallyAt (rcvC (pt c (mi s)) s) () N) ∗ sndPay A c s ∗ preS c s)
      ⊢ iprop(((owesAny c O ∗ sentS c s) -∗ WP c k Q) -∗ WP c (sendP s dv k) Q) := by
  subst hd
  unfold owesAny preS slotAny sndPay owns sentS
  iintro ⟨#HR, ⟨%W, HO⟩, ⟨%fs, %hfs, Hs⟩, ⟨%X, %fd, %hfd, Hd⟩, Ht1, Ht2⟩ Hk
  iapply (wp_send_raw A K c Q k s O W fs hfs fd) $$ [HO Hs Hd Ht1 Ht2]
  · isplitr; · iapply (recs_inv A K (c, .inr (.inl s))); iexact HR
    isplitr; · iapply (recs_inv A K (pt c (mi s), .inr (.inr s))); iexact HR
    isplitl [Hs]; · iexact Hs
    isplitl [Hd]; · iexact Hd
    isplitl [HO]; · iexact HO
    isplitl [Ht1]; · iexact Ht1
    isplitr; · iapply (recs_reached A K (c, .inr (.inl s))); iexact HR
    isplitl [Ht2]; · iexact Ht2
    iapply (recs_reached A K (pt c (mi s), .inr (.inr s))); iexact HR
  iintro ⟨Hc, HO⟩
  iapply Hk
  isplitl [HO]; · iexists W; iexact HO
  iexact Hc

/-- What is owed for a cluster's three copies, the first outermost. -/
theorem owedS_q3 (q : Cl) (l : List Slot) : owedS c (q3 q l)
    = owedS c l + tallyAt (rcvC (pt c (mi (q, 2))) (q, 2)) () N + tallyAt (rcvC (pt c (mi (q, 1))) (q, 1)) () N
      + tallyAt (rcvC (pt c (mi (q, 0))) (q, 0)) () N := rfl

/-- A cluster's three copies sent. -/
theorem wp_sends (q : Cl) (l : List Slot) (d0 d1 d2 : Dev nD) (h0 : d0 = pt c (mi (q, 0))) (h1 : d1 = pt c (mi (q, 1))) (h2 : d2 = pt c (mi (q, 2))) :
    iprop(recs A K ∗ owesAny c (owedS c (q3 q l)) ∗ owns (c : Thread nD τ) (sndSq q) fullShare (bval A c q) ∗ tri (preS c) q)
      ⊢ iprop(((owesAny c (owedS c l) ∗ tri (sentS c) q) -∗ WP c k Q) -∗ WP c (sendsP q d0 d1 d2 k) Q) := by
  unfold sendsP
  iintro ⟨#HR, HO, Hs, Hp⟩ Hk
  ihave Hs := (snd_thirds A c q).1 $$ Hs
  rw [owedS_q3]
  unfold tri
  icases Hs with ⟨Hs0, Hs1, Hs2⟩
  icases Hp with ⟨Hp0, Hp1, Hp2⟩
  iapply (wp_send A K c Q _ (q, 0) _ d0 h0) $$ [HO Hs0 Hp0]
  · isplitr; · iexact HR
    isplitl [HO]; · iexact HO
    isplitl [Hs0] <;> iassumption
  iintro ⟨HO, Hc0⟩
  iapply (wp_send A K c Q _ (q, 1) _ d1 h1) $$ [HO Hs1 Hp1]
  · isplitr; · iexact HR
    isplitl [HO]; · iexact HO
    isplitl [Hs1] <;> iassumption
  iintro ⟨HO, Hc1⟩
  iapply (wp_send A K c Q _ (q, 2) _ d2 h2) $$ [HO Hs2 Hp2]
  · isplitr; · iexact HR
    isplitl [HO]; · iexact HO
    isplitl [Hs2] <;> iassumption
  iintro ⟨HO, Hc2⟩
  iapply Hk
  isplitl [HO]; · iexact HO
  isplitl [Hc0]; · iexact Hc0
  isplitl [Hc1] <;> iassumption

/-- A chunk's rows of the result replaced. -/
theorem wp_put (g h : Fin 2) (v : FVec F S64x256 .f32) :
    (outAny (F := F) c g h) ⊢ iprop((outAt c g h v -∗ WP c k Q) -∗ WP c (putP g h v k) Q) := by
  unfold outAny outAt owns putP
  iintro ⟨%v0, %f, %hf, H⟩ Hk
  iapply (wp_load_rect 𝒱₀ (c : Thread nD τ) none Set.univ (m := outM) (r := oRect g h) (S := (outM.access (oRect g h)).set) (f := f)
    (Finset.Subset.refl _)) $$ H
  iintro H
  iapply (wp_store 𝒱₀ (c : Thread nD τ) none Set.univ (m := outM) (r := oRect g h) (Mk := Finset.univ) (S := (outM.access (oRect g h)).set) (f := f)
    (Finset.Subset.refl _)) $$ H
  iintro H
  iapply Hk
  iexists ((outM.access (oRect g h)).write (Elt F) f v Finset.univ)
  isplitr; · ipureintro; exact View.read_write_univ (v := outM.access (oRect g h)) _ _
  iexact H

/-- A cluster's block filled. -/
theorem wp_pack (q : Cl) (v : FVec F S64x256 .f32) :
    (sndAny (F := F) c q) ⊢ iprop((owns (c : Thread nD τ) (sndSq q) fullShare (rnd v) -∗ WP c k Q) -∗ WP c (packP q v k) Q) := by
  have hset : (sndSq q).view.set = (sndM.access (sRect q)).set := View.set_reshape _ _
  unfold sndAny owns packP
  rw [hset]
  iintro ⟨%v0, %f, %hf, H⟩ Hk
  iapply (wp_load_rect 𝒱₀ (c : Thread nD τ) none Set.univ (m := sndM) (r := sRect q) (S := (sndM.access (sRect q)).set) (f := f)
    (Finset.Subset.refl _)) $$ H
  iintro H
  iapply (wp_store 𝒱₀ (c : Thread nD τ) none Set.univ (m := sndM) (r := sRect q) (Mk := Finset.univ) (S := (sndM.access (sRect q)).set) (f := f)
    (Finset.Subset.refl _)) $$ H
  iintro H
  iapply Hk
  iexists ((sndM.access (sRect q)).write (Elt F) f (pack v) Finset.univ)
  isplitr
  · ipureintro
    have h1 : (sndM.access (sRect q)).read (Elt F) ((sndM.access (sRect q)).write (Elt F) f (pack v) Finset.univ) = pack v := View.read_write_univ _ _
    refine (congrArg (fun w : FVec F S1x1x1x64x256 .bf16 => shapeCast S64x256 w (Shape.Squeezes.numel_eq Facts₀.squeezes_S1x1x1x64x256_S64x256)) h1).trans ?_
    unfold pack rnd
    exact shapeCast_shapeCast _ _ _
  iexact H

/-- A send cell's level. -/
theorem lv_snd (s : Slot) : lvK (kindOf (.dma (sSem s))) = 0 := congrArg lvK (kindOf_csem (.inr (.inl s)))

/-- A receive cell's level. -/
theorem lv_rcv (s : Slot) : lvK (kindOf (.dma (rSem s))) = 2 + s.1.2.1.val := congrArg lvK (kindOf_csem (.inr (.inr s)))

/-- A wait on a send cell is allowed while all that is owed lies above some level. -/
theorem mayWait_snd (s : Slot) {n : ℕ} {O : CellTallies nD τ sig Unit} (hO : Above n O) :
    recs A K ⊢ MayWait (c : Thread nD τ) (.dma (sSem s)) () O := by
  have h0 : recs A K ⊢ (levAts L lv : sProp 𝕄) := by
    unfold recs
    iintro ⟨H, -⟩
    iexact H
  have hn : lvK (kindOf (.dma (sSem s))) ≤ n := by rw [lv_snd]; exact Nat.zero_le _
  have h1 : (levAts L lv : sProp 𝕄) ⊢ MayWait (c : Thread nD τ) (.dma (sSem s)) () O := mayWait_above c (.dma (sSem s)) n hn hO
  exact h0.trans h1

/-- A wait on a receive cell is allowed while all that is owed lies above its phase. -/
theorem mayWait_rcv (s : Slot) {O : CellTallies nD τ sig Unit} (hO : Above (2 + s.1.2.1.val) O) :
    recs A K ⊢ MayWait (c : Thread nD τ) (.dma (rSem s)) () O := by
  have h0 : recs A K ⊢ (levAts L lv : sProp 𝕄) := by
    unfold recs
    iintro ⟨H, -⟩
    iexact H
  have hn : lvK (kindOf (.dma (rSem s))) ≤ 2 + s.1.2.1.val := by rw [lv_rcv]
  have h1 : (levAts L lv : sProp 𝕄) ⊢ MayWait (c : Thread nD τ) (.dma (rSem s)) () O := mayWait_above c (.dma (rSem s)) _ hn hO
  exact h0.trans h1

/-- A landing block, read through its rectangle. -/
theorem wp_load_rcv (s : Slot) (k : Vec F S1x1x1x1x64x256 .bf16 → PG F) :
    (rcvPay A c s) ⊢ iprop((∀ r : Vec F S1x1x1x1x64x256 .bf16, ⌜(shapeCast S64x256 r Facts₀.shapeCasts_S1x1x1x1x64x256_S64x256 : FVec F S64x256 .bf16) = rval A c s⌝
          -∗ slotAny c s -∗ WP c (k r) Q)
      -∗ WP c (.op (.load rcvM (rRect s).toLoadRect (View.loadsAt_vmem Facts₀.h_S1x1x1x1x64x256)) k) Q) := by
  have hset : (rcvSq s).view.set = (rcvM.access (rRect s)).set := View.set_reshape _ _
  unfold rcvPay slotAny owns
  rw [hset]
  iintro ⟨%f, %hf, H⟩ Hk
  iapply (wp_load_rect 𝒱₀ (c : Thread nD τ) none Set.univ (m := rcvM) (r := rRect s) (S := (rcvM.access (rRect s)).set) (f := f)
    (Finset.Subset.refl _)) $$ H
  iintro H
  iapply Hk $$ %((rcvM.access (rRect s)).read (Elt F) f) %hf [H]
  iexists (rval A c s); iexists f
  isplitr; · ipureintro; exact hf
  iexact H

/-- One partner's copy awaited: the sent share and the landed block come back, and both cells close. -/
theorem wp_recv (s : Slot) (O : CellTallies nD τ sig Unit) (hO : Above (2 + s.1.2.1.val) O) (k : Vec F S1x1x1x1x64x256 .bf16 → PG F) :
    iprop(recs A K ∗ owesAny c O ∗ sentS c s ∗ gathS c s)
      ⊢ iprop((∀ r : Vec F S1x1x1x1x64x256 .bf16, ⌜(shapeCast S64x256 r Facts₀.shapeCasts_S1x1x1x1x64x256_S64x256 : FVec F S64x256 .bf16) = rval A c s⌝
          -∗ (owesAny c O ∗ doneS A c s) -∗ WP c (k r) Q) -∗ WP c (recvP s k) Q) := by
  unfold owesAny sentS gathS recvP
  iintro ⟨#HR, ⟨%W, HO⟩, Hc1, Hp1, Hp2, Hc2⟩ Hk
  iapply (Rounds.wp_wait_rest_token 𝒱₀ ER (Rd A) (c : Thread nD τ) none (κ := K (c, .inr (.inl s)))
      (wpE_waitDma2_eq 𝒱₀ (c : Thread nD τ) none Set.univ) (Set.mem_univ _) () (O := O) (W := W) (R := 0) (m := 0) (T := ∅)
      (by rw [Nat.zero_add, expect_snd]; exact snd_credit s.1)) $$ [Hc1 HO Hp1]
  · isplitr; · iapply (recs_inv A K (c, .inr (.inl s))); iexact HR
    isplitl [Hc1]; · iexact Hc1
    isplitl [HO]; · iexact HO
    isplitr; · iapply (mayWait_snd A K c s hO); iexact HR
    iexact Hp1
  iintro ⟨HO, Hp1, -, Hpay⟩
  ihave Hs := (Entails.of_eq (rest_snd A c s)) $$ Hpay
  iapply (Rounds.wp_wait_rest_token 𝒱₀ ER (Rd A) (c : Thread nD τ) none (κ := K (c, .inr (.inr s)))
      (wpE_waitDma2_eq 𝒱₀ (c : Thread nD τ) none Set.univ) (Set.mem_univ _) () (O := O) (R := 0) (m := 0) (T := ∅)
      (by rw [Nat.zero_add, expect_rcv]; exact rcv_credit s)) $$ [Hc2 HO Hp2]
  · isplitr; · iapply (recs_inv A K (c, .inr (.inr s))); iexact HR
    isplitl [Hc2]; · iexact Hc2
    isplitl [HO]; · iexact HO
    isplitr; · iapply (mayWait_rcv A K c s hO); iexact HR
    iexact Hp2
  iintro ⟨HO, Hp2, -, Hpay⟩
  ihave Hr := (Entails.of_eq (rest_rcv A c s)) $$ Hpay
  imod (Rounds.cell_close ER (Rd A) (Set.mem_univ (K (c, .inr (.inl s)))) (fun h => h) (R := 0 + 1) (duties_later A (sndC c s))) $$ [Hp1] with Hz1
  · isplitr; · iapply (recs_inv A K (c, .inr (.inl s))); iexact HR
    iexact Hp1
  imod (Rounds.cell_close ER (Rd A) (Set.mem_univ (K (c, .inr (.inr s)))) (fun h => h) (R := 0 + 1) (duties_later A (rcvC c s))) $$ [Hp2] with Hz2
  · isplitr; · iapply (recs_inv A K (c, .inr (.inr s))); iexact HR
    iexact Hp2
  iapply (wp_load_rcv A c Q s k) $$ Hr
  iintro %r %hr Hr
  iapply Hk $$ %r %hr [HO Hs Hr Hz1 Hz2]
  isplitl [HO]; · iexists _; iexact HO
  unfold doneS
  isplitl [Hs]; · iexact Hs
  isplitl [Hr]; · iexact Hr
  isplitl [Hz1] <;> iassumption

/-- A cluster's end, from its chunk's rows and the three blocks read. -/
theorem addRs_eq (q : Cl) (r0 r1 r2 : Vec F S1x1x1x1x64x256 .bf16)
    (h0 : (shapeCast S64x256 r0 Facts₀.shapeCasts_S1x1x1x1x64x256_S64x256 : FVec F S64x256 .bf16) = rval A c (q, 0))
    (h1 : (shapeCast S64x256 r1 Facts₀.shapeCasts_S1x1x1x1x64x256_S64x256 : FVec F S64x256 .bf16) = rval A c (q, 1))
    (h2 : (shapeCast S64x256 r2 Facts₀.shapeCasts_S1x1x1x1x64x256_S64x256 : FVec F S64x256 .bf16) = rval A c (q, 2)) :
    addRs (preV A c q) r0 r1 r2 = postV A c q := by
  unfold addRs addR
  rw [h0, h1, h2, shapeCast_self]
  rfl

/-- A chunk's rows of the result read. -/
theorem wp_get (g h : Fin 2) (v : FVec F S64x256 .f32) (k : Vec F S64x256 .f32 → PG F) :
    (outAt c g h v) ⊢ iprop((outAt c g h v -∗ WP c (k v) Q)
      -∗ WP c (.op (.load outM (oRect g h).toLoadRect (View.loadsAt_vmem Facts₀.h_S64x256)) k) Q) := by
  unfold outAt owns
  iintro ⟨%f, %hf, H⟩ Hk
  iapply (wp_load_rect 𝒱₀ (c : Thread nD τ) none Set.univ (m := outM) (r := oRect g h) (S := (outM.access (oRect g h)).set) (f := f)
    (Finset.Subset.refl _)) $$ H
  iintro H
  have hf' : (outM.access (oRect g h)).read (Elt F) f = v := hf
  rw [hf']
  iapply Hk
  iexists f
  isplitr; · ipureintro; exact hf
  iexact H

/-- A cluster gathered: the three copies awaited and added onto the chunk's rows. -/
theorem wp_gather (q : Cl) (O : CellTallies nD τ sig Unit) (hO : Above (2 + q.2.1.val) O) (k : FVec F S64x256 .f32 → PG F) :
    iprop(recs A K ∗ owesAny c O ∗ outAt c q.1 q.2.2 (preV A c q) ∗ tri (sentS c) q ∗ tri (gathS c) q)
      ⊢ iprop(((owesAny c O ∗ outAt c q.1 q.2.2 (postV A c q) ∗ tri (doneS A c) q) -∗ WP c (k (postV A c q)) Q) -∗ WP c (gatherP q k) Q) := by
  unfold tri gatherP
  iintro ⟨#HR, HO, Hout, ⟨Hs0, Hs1, Hs2⟩, ⟨Hg0, Hg1, Hg2⟩⟩ Hk
  iapply (wp_get c Q q.1 q.2.2 (preV A c q)) $$ Hout
  iintro Hout
  iapply (wp_recv A K c Q (q, 0) O hO) $$ [HO Hs0 Hg0]
  · isplitr; · iexact HR
    isplitl [HO]; · iexact HO
    isplitl [Hs0] <;> iassumption
  iintro %r0 %h0 ⟨HO, Hd0⟩
  iapply (wp_recv A K c Q (q, 1) O hO) $$ [HO Hs1 Hg1]
  · isplitr; · iexact HR
    isplitl [HO]; · iexact HO
    isplitl [Hs1] <;> iassumption
  iintro %r1 %h1 ⟨HO, Hd1⟩
  iapply (wp_recv A K c Q (q, 2) O hO) $$ [HO Hs2 Hg2]
  · isplitr; · iexact HR
    isplitl [HO]; · iexact HO
    isplitl [Hs2] <;> iassumption
  iintro %r2 %h2 ⟨HO, Hd2⟩
  rw [addRs_eq A c q r0 r1 r2 h0 h1 h2]
  iapply (wp_put c Q _ q.1 q.2.2 (postV A c q)) $$ [Hout]
  · unfold outAny
    iexists (preV A c q); iexact Hout
  iintro Hout
  iapply Hk
  isplitl [HO]; · iexact HO
  isplitl [Hout]; · iexact Hout
  isplitl [Hd0]; · iexact Hd0
  isplitl [Hd1] <;> iassumption

/-- A chunk's block after the first phase is the one its second phase starts from. -/
theorem postV_zero (g h : Fin 2) : postV A c (g, 0, h) = preV A c (g, 1, h) := rfl

/-- A relay: the first phase gathered, the second sent. -/
theorem wp_relay (g h : Fin 2) (l : List Slot) (hl : Above 2 (owedS c (q3 (g, 1, h) l))) (d0 d1 d2 : Dev nD)
    (h0 : d0 = pt c (mi ((g, 1, h), 0))) (h1 : d1 = pt c (mi ((g, 1, h), 1))) (h2 : d2 = pt c (mi ((g, 1, h), 2))) :
    iprop(recs A K ∗ owesAny c (owedS c (q3 (g, 1, h) l)) ∗ outAt c g h (preV A c (g, 0, h)) ∗ tri (sentS c) (g, 0, h) ∗ tri (gathS c) (g, 0, h)
        ∗ sndAny c (g, 1, h) ∗ tri (preS c) (g, 1, h))
      ⊢ iprop(((owesAny c (owedS c l) ∗ outAt c g h (preV A c (g, 1, h)) ∗ tri (doneS A c) (g, 0, h) ∗ tri (sentS c) (g, 1, h)) -∗ WP c k Q)
        -∗ WP c (relayP g h d0 d1 d2 k) Q) := by
  unfold relayP
  iintro ⟨#HR, HO, Hout, Hs, Hg, Hb, Hp⟩ Hk
  iapply (wp_gather A K c Q (g, 0, h) _ hl) $$ [HO Hout Hs Hg]
  · isplitr; · iexact HR
    isplitl [HO]; · iexact HO
    isplitl [Hout]; · iexact Hout
    isplitl [Hs] <;> iassumption
  iintro ⟨HO, Hout, Hd⟩
  rw [postV_zero]
  iapply (wp_pack c Q _ (g, 1, h) (preV A c (g, 1, h))) $$ Hb
  iintro Hb
  iapply (wp_sends A K c Q k (g, 1, h) l d0 d1 d2 h0 h1 h2) $$ [HO Hb Hp]
  · isplitr; · iexact HR
    isplitl [HO]; · iexact HO
    isplitl [Hb]; · iexact Hb
    iexact Hp
  iintro ⟨HO, Hs⟩
  iapply Hk
  isplitl [HO]; · iexact HO
  isplitl [Hout]; · iexact Hout
  isplitl [Hd] <;> iassumption

/-- The experts' weights as staged, with the blocks the loads read. -/
def ewAt (fe : Buf (Elt F) (ewM.view.loc (c : Thread nD τ))) : sProp 𝕄 := (ewM.view.loc (c : Thread nD τ) ↦[ewM.view.set]{fullShare} fe)

/-- An expert's weights, as loaded from the staged pair. -/
def wAt (j : Fin 2) (fe : Buf (Elt F) (ewM.view.loc (c : Thread nD τ))) : Vec F S1x128x256 .f32 :=
  match j with
  | 0 => ewM.view.readAt (Elt F) (Rect.unit (s := S2x128x256) ![0, 0, 0] S1x128x256.size Facts₀.inb_S2x128x256_S1x128x256_0_0_0).toLoadRect fe
  | 1 => ewM.view.readAt (Elt F) (Rect.unit (s := S2x128x256) ![1, 0, 0] S1x128x256.size Facts₀.inb_S2x128x256_S1x128x256_1_0_0).toLoadRect fe

/-- A chunk: computed, kept, and sent in the first phase. -/
theorem wp_chunk (g h : Fin 2) (x : FVec F S256x128 .f32) (ga gb : FVec F S256x1 .f32) (fe : Buf (Elt F) (ewM.view.loc (c : Thread nD τ)))
    (hA : acc g h x ga gb (wAt c 0 fe) (wAt c 1 fe) = A c g h) (l : List Slot) (d0 d1 d2 : Dev nD)
    (h0 : d0 = pt c (mi ((g, 0, h), 0))) (h1 : d1 = pt c (mi ((g, 0, h), 1))) (h2 : d2 = pt c (mi ((g, 0, h), 2))) :
    iprop(recs A K ∗ owesAny c (owedS c (q3 (g, 0, h) l)) ∗ ewAt c fe ∗ outAny c g h ∗ sndAny c (g, 0, h) ∗ tri (preS c) (g, 0, h))
      ⊢ iprop(((owesAny c (owedS c l) ∗ ewAt c fe ∗ outAt c g h (preV A c (g, 0, h)) ∗ tri (sentS c) (g, 0, h)) -∗ WP c k Q)
        -∗ WP c (chunkP g h x ga gb d0 d1 d2 k) Q) := by
  unfold chunkP ewAt
  iintro ⟨#HR, HO, Hw, Hout, Hb, Hp⟩ Hk
  iapply (wp_load 𝒱₀ (c : Thread nD τ) none Set.univ (m := ewM) (by rw [View.set_whole]; exact Finset.subset_univ _)) $$ Hw
  iintro Hw
  iapply (wp_load 𝒱₀ (c : Thread nD τ) none Set.univ (m := ewM) (by rw [View.set_whole]; exact Finset.subset_univ _)) $$ Hw
  iintro Hw
  have hA' : acc g h x ga gb (ewM.view.readAt (Elt F) (Rect.unit (s := S2x128x256) ![0, 0, 0] S1x128x256.size Facts₀.inb_S2x128x256_S1x128x256_0_0_0).toLoadRect fe)
    (ewM.view.readAt (Elt F) (Rect.unit (s := S2x128x256) ![1, 0, 0] S1x128x256.size Facts₀.inb_S2x128x256_S1x128x256_1_0_0).toLoadRect fe) = preV A c (g, 0, h) := hA
  rw [hA']
  iapply (wp_put c Q _ g h (preV A c (g, 0, h))) $$ Hout
  iintro Hout
  iapply (wp_pack c Q _ (g, 0, h) (preV A c (g, 0, h))) $$ Hb
  iintro Hb
  iapply (wp_sends A K c Q k (g, 0, h) l d0 d1 d2 h0 h1 h2) $$ [HO Hb Hp]
  · isplitr; · iexact HR
    isplitl [HO]; · iexact HO
    isplitl [Hb]; · iexact Hb
    iexact Hp
  iintro ⟨HO, Hs⟩
  iapply Hk
  isplitl [HO]; · iexact HO
  isplitl [Hw]; · iexact Hw
  isplitl [Hout] <;> iassumption

end Steps

end Cert.Moe

end
-- ==== Proof.Exch.lean ====
/-
The exchange on one device, from the barrier's signals to the last block added: the pieces of `Steps` put one after the
other, with the device's resources listed cluster by cluster.
-/
module

public import proofs.«01_k».proof.Proof.Steps

@[expose] public section

set_option synthInstance.maxSize 4096

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices named by the printed program -/

set_option maxHeartbeats 4000000 in
/-- The devices signalled are the partners in order. -/
theorem dev_sig (c : Dev nD) :
    (⟨k0_dev1 c, Facts₀.k0_dev1_lt c⟩ : Dev nD) = pt c 0 ∧ (⟨k0_dev2 c, Facts₀.k0_dev2_lt c⟩ : Dev nD) = pt c 1
    ∧ (⟨k0_dev3 c, Facts₀.k0_dev3_lt c⟩ : Dev nD) = pt c 2 ∧ (⟨k0_dev4 c, Facts₀.k0_dev4_lt c⟩ : Dev nD) = pt c 3
    ∧ (⟨k0_dev5 c, Facts₀.k0_dev5_lt c⟩ : Dev nD) = pt c 4 ∧ (⟨k0_dev6 c, Facts₀.k0_dev6_lt c⟩ : Dev nD) = pt c 5 := by
  revert c; decide +kernel

/-- Chunk `(0, 0)`'s first partners. -/
theorem dev_00 (c : Dev nD) : (⟨k0_dev7 c, Facts₀.k0_dev7_lt c⟩ : Dev nD) = pt c (mi ((0, 0, 0), 0))
    ∧ (⟨k0_dev8 c, Facts₀.k0_dev8_lt c⟩ : Dev nD) = pt c (mi ((0, 0, 0), 1)) ∧ (⟨k0_dev9 c, Facts₀.k0_dev9_lt c⟩ : Dev nD) = pt c (mi ((0, 0, 0), 2)) := by
  revert c; decide +kernel

/-- Chunk `(1, 0)`'s first partners. -/
theorem dev_10 (c : Dev nD) : (⟨k0_dev10 c, Facts₀.k0_dev10_lt c⟩ : Dev nD) = pt c (mi ((1, 0, 0), 0))
    ∧ (⟨k0_dev11 c, Facts₀.k0_dev11_lt c⟩ : Dev nD) = pt c (mi ((1, 0, 0), 1)) ∧ (⟨k0_dev12 c, Facts₀.k0_dev12_lt c⟩ : Dev nD) = pt c (mi ((1, 0, 0), 2)) := by
  revert c; decide +kernel

/-- Chunk `(0, 1)`'s first partners. -/
theorem dev_01 (c : Dev nD) : (⟨k0_dev13 c, Facts₀.k0_dev13_lt c⟩ : Dev nD) = pt c (mi ((0, 0, 1), 0))
    ∧ (⟨k0_dev14 c, Facts₀.k0_dev14_lt c⟩ : Dev nD) = pt c (mi ((0, 0, 1), 1)) ∧ (⟨k0_dev15 c, Facts₀.k0_dev15_lt c⟩ : Dev nD) = pt c (mi ((0, 0, 1), 2)) := by
  revert c; decide +kernel

/-- Chunk `(1, 1)`'s first partners. -/
theorem dev_11 (c : Dev nD) : (⟨k0_dev16 c, Facts₀.k0_dev16_lt c⟩ : Dev nD) = pt c (mi ((1, 0, 1), 0))
    ∧ (⟨k0_dev17 c, Facts₀.k0_dev17_lt c⟩ : Dev nD) = pt c (mi ((1, 0, 1), 1)) ∧ (⟨k0_dev18 c, Facts₀.k0_dev18_lt c⟩ : Dev nD) = pt c (mi ((1, 0, 1), 2)) := by
  revert c; decide +kernel

/-- Chunk `(0, 0)`'s second partners. -/
theorem dev_00' (c : Dev nD) : (⟨k0_dev19 c, Facts₀.k0_dev19_lt c⟩ : Dev nD) = pt c (mi ((0, 1, 0), 0))
    ∧ (⟨k0_dev20 c, Facts₀.k0_dev20_lt c⟩ : Dev nD) = pt c (mi ((0, 1, 0), 1)) ∧ (⟨k0_dev21 c, Facts₀.k0_dev21_lt c⟩ : Dev nD) = pt c (mi ((0, 1, 0), 2)) := by
  revert c; decide +kernel

/-- Chunk `(1, 0)`'s second partners. -/
theorem dev_10' (c : Dev nD) : (⟨k0_dev22 c, Facts₀.k0_dev22_lt c⟩ : Dev nD) = pt c (mi ((1, 1, 0), 0))
    ∧ (⟨k0_dev23 c, Facts₀.k0_dev23_lt c⟩ : Dev nD) = pt c (mi ((1, 1, 0), 1)) ∧ (⟨k0_dev24 c, Facts₀.k0_dev24_lt c⟩ : Dev nD) = pt c (mi ((1, 1, 0), 2)) := by
  revert c; decide +kernel

/-- Chunk `(0, 1)`'s second partners. -/
theorem dev_01' (c : Dev nD) : (⟨k0_dev25 c, Facts₀.k0_dev25_lt c⟩ : Dev nD) = pt c (mi ((0, 1, 1), 0))
    ∧ (⟨k0_dev26 c, Facts₀.k0_dev26_lt c⟩ : Dev nD) = pt c (mi ((0, 1, 1), 1)) ∧ (⟨k0_dev27 c, Facts₀.k0_dev27_lt c⟩ : Dev nD) = pt c (mi ((0, 1, 1), 2)) := by
  revert c; decide +kernel

/-- Chunk `(1, 1)`'s second partners. -/
theorem dev_11' (c : Dev nD) : (⟨k0_dev28 c, Facts₀.k0_dev28_lt c⟩ : Dev nD) = pt c (mi ((1, 1, 1), 0))
    ∧ (⟨k0_dev29 c, Facts₀.k0_dev29_lt c⟩ : Dev nD) = pt c (mi ((1, 1, 1), 1)) ∧ (⟨k0_dev30 c, Facts₀.k0_dev30_lt c⟩ : Dev nD) = pt c (mi ((1, 1, 1), 2)) := by
  revert c; decide +kernel

/-! ## Conjunctions listed -/

/-- Over the clusters, in the order worked on. -/
theorem bigSep_cl (Φ : Cl → sProp 𝕄) : bigSep Finset.univ Φ
    = iprop(Φ (0, 0, 0) ∗ Φ (1, 0, 0) ∗ Φ (0, 0, 1) ∗ Φ (1, 0, 1) ∗ Φ (0, 1, 0) ∗ Φ (1, 1, 0) ∗ Φ (0, 1, 1) ∗ Φ (1, 1, 1)) :=
  bigSep_univ_eq_bigSepL [(0, 0, 0), (1, 0, 0), (0, 0, 1), (1, 0, 1), (0, 1, 0), (1, 1, 0), (0, 1, 1), (1, 1, 1)] (by decide) (by decide) Φ

/-- Over the chunks, in the order worked on. -/
theorem bigSep_gh (Φ : Fin 2 × Fin 2 → sProp 𝕄) : bigSep Finset.univ Φ = iprop(Φ (0, 0) ∗ Φ (1, 0) ∗ Φ (0, 1) ∗ Φ (1, 1)) :=
  bigSep_univ_eq_bigSepL [(0, 0), (1, 0), (0, 1), (1, 1)] (by decide) (by decide) Φ

/-- Over the masks. -/
theorem bigSep_mask (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- Over the slots, cluster by cluster. -/
theorem bigSep_slot (Φ : Slot → sProp 𝕄) : bigSep Finset.univ Φ = bigSep Finset.univ (tri Φ) := by
  rw [bigSep_univ_prod]
  exact bigSep_congr fun q _ => bigSep_univ_eq_bigSepL [0, 1, 2] (by decide) (by decide) fun i => Φ (q, i)

variable (A : Dev nD → Fin 2 → Fin 2 → FVec F S64x256 .f32) (K : Dev nD × CK → ℕ)

section Exch
variable (c : Dev nD) (Q : PUnit.{1} → sProp (MT nD τ sig Unit (Elt F) ℕ UU ℕ)) (k : PG F)

/-- What a device hands its partner by mask `d`: its own four landing blocks that the partner writes. -/
def barGive (d : Fin 6) : sProp 𝕄 := bigSep Finset.univ fun gh : Fin 2 × Fin 2 => slotAny (F := F) c (se (d, gh))

/-- A partner signalled. -/
theorem wp_sig (d : Fin 6) (l : List Slot) (ds : List (Fin 6)) (dv : Dev nD) (hd : dv = pt c d) :
    iprop(recs A K ∗ owesAny c (owedB c l (d :: ds)) ∗ dutyTok ER (barC (pt c d)) 0 d ∗ barGive c d)
      ⊢ iprop((owesAny c (owedB c l ds) -∗ WP c k Q) -∗ WP c (sigP dv k) Q) := by
  subst hd
  unfold owesAny sigP
  iintro ⟨#HR, ⟨%W, HO⟩, Ht, Hg⟩ Hk
  iapply (Rounds.wp_signal 𝒱₀ ER (Rd A) (c : Thread nD τ) none (dst := (pt c d : Thread nD τ)) (κ := K (pt c d, .inl ()))
      (d := d) (by rw [duties_bar]; exact Finset.mem_univ _) ((amount_bar A (pt c d) d).trans (by decide)) () (owedB c l ds) rfl)
    $$ [HO Ht Hg]
  · isplitr; · iapply (recs_inv A K (pt c d, .inl ())); iexact HR
    isplitl [HO]; · iexact HO
    isplitl [Ht]; · iexact Ht
    isplitl [Hg]
    · rw [payload_bar]; unfold barPay barGive; rw [pt_pt]; iexact Hg
    iapply (recs_reached A K (pt c d, .inl ())); iexact HR
  iintro HO
  iapply Hk
  iexists W; iexact HO

/-- A barrier cell's level. -/
theorem lv_bar : lvK (kindOf (.reg barS)) = 1 := congrArg lvK (kindOf_csem (.inl ()))

/-- A wait on the barrier is allowed while all that is owed is for copies. -/
theorem mayWait_bar (l : List Slot) : recs A K ⊢ MayWait (c : Thread nD τ) (.reg barS) () (owedS c l) := by
  have h0 : recs A K ⊢ (levAts L lv : sProp 𝕄) := by
    unfold recs
    iintro ⟨H, -⟩
    iexact H
  have h1 : (levAts L lv : sProp 𝕄) ⊢ MayWait (c : Thread nD τ) (.reg barS) () (owedS c l) :=
    mayWait_above c (.reg barS) 1 (by rw [lv_bar]) (above_owedS c fun s _ => by omega)
  exact h0.trans h1

/-- The barrier awaited: all the landing blocks the device writes are its, and the barrier's cell closes. -/
theorem wp_bar (l : List Slot) :
    iprop(recs A K ∗ owesAny c (owedS c l) ∗ atPos ER (barC c) 0 ∅ 0 ∗ cred (tallyAt (barC c) () 6))
      ⊢ iprop(((owesAny c (owedS c l) ∗ semVal (barC c) 0 ∗ bigSep Finset.univ fun s : Slot => slotAny (F := F) (pt c (mi s)) s) -∗ WP c k Q)
        -∗ WP c (.op (.semWait barS (6#32).toInt) fun _ => k) Q) := by
  unfold owesAny
  iintro ⟨#HR, ⟨%W, HO⟩, Hp, Hc⟩ Hk
  iapply (Rounds.wp_wait_rest_token 𝒱₀ ER (Rd A) (c : Thread nD τ) none (κ := K (c, .inl ()))
      (wpE_semWait_eq 𝒱₀ (c : Thread nD τ) none Set.univ) (Set.mem_univ _) () (O := owedS c l) (W := W) (R := 0) (m := 0) (T := ∅)
      (by rw [expect_bar]; decide)) $$ [Hc HO Hp]
  · isplitr; · iapply (recs_inv A K (c, .inl ())); iexact HR
    isplitl [Hc]; · iexact Hc
    isplitl [HO]; · iexact HO
    isplitr; · iapply (mayWait_bar A K c l); iexact HR
    iexact Hp
  iintro ⟨HO, Hp, -, Hpay⟩
  ihave Hs := (Entails.of_eq (rest_bar A c)) $$ Hpay
  imod (Rounds.cell_close ER (Rd A) (Set.mem_univ (K (c, .inl ()))) (fun h => h) (R := 0 + 1) (duties_later A (barC c))) $$ [Hp] with Hz
  · isplitr; · iapply (recs_inv A K (c, .inl ())); iexact HR
    iexact Hp
  iapply Hk
  isplitl [HO]; · iexists _; iexact HO
  isplitl [Hz] <;> iassumption

/-- The copies still owed in the second phase lie above the first. -/
theorem above_second {l : List Slot} (h : ∀ s ∈ l, s.1.2.1 = 1) : Above 2 (owedS c l) :=
  above_owedS c fun s hs => by rw [h s hs]; decide

set_option maxHeartbeats 1600000 in
/-- The exchange once the barrier is passed. -/
theorem wp_exch (x : FVec F S256x128 .f32) (ga gb : FVec F S256x1 .f32) (fe : Buf (Elt F) (ewM.view.loc (c : Thread nD τ)))
    (hA : ∀ g h, acc g h x ga gb (wAt c 0 fe) (wAt c 1 fe) = A c g h) :
    iprop(recs A K ∗ owesAny c (owedS c sOrd) ∗ atPos ER (barC c) 0 ∅ 0 ∗ cred (tallyAt (barC c) () 6) ∗ ewAt c fe
        ∗ (bigSep Finset.univ fun gh : Fin 2 × Fin 2 => outAny c gh.1 gh.2)
        ∗ (bigSep Finset.univ fun q : Cl => sndAny c q)
        ∗ (bigSep Finset.univ fun s : Slot => iprop(dutyTok ER (sndC c s) 0 0 ∗ dutyTok ER (rcvC (pt c (mi s)) s) 0 0))
        ∗ (bigSep Finset.univ fun s : Slot => gathS c s))
      ⊢ iprop(((owesAny c 0 ∗ semVal (barC c) 0 ∗ ewAt c fe
            ∗ (bigSep Finset.univ fun gh : Fin 2 × Fin 2 => outAt c gh.1 gh.2 (finV A gh.1 gh.2 c))
            ∗ bigSep Finset.univ fun s : Slot => doneS A c s) -∗ Q ⟨⟩) -∗ WP c (exchP c x ga gb) Q) := by
  obtain ⟨a0, a1, a2⟩ := dev_00 c
  obtain ⟨b0, b1, b2⟩ := dev_10 c
  obtain ⟨e0, e1, e2⟩ := dev_01 c
  obtain ⟨f0, f1, f2⟩ := dev_11 c
  obtain ⟨a0', a1', a2'⟩ := dev_00' c
  obtain ⟨b0', b1', b2'⟩ := dev_10' c
  obtain ⟨e0', e1', e2'⟩ := dev_01' c
  obtain ⟨f0', f1', f2'⟩ := dev_11' c
  unfold exchP
  iintro ⟨#HR, HO, Hp, Hc, Hw, Hout, Hb, Ht, Hg⟩ Hk
  iapply (wp_bar A K c Q _ sOrd) $$ [HO Hp Hc]
  · isplitr; · iexact HR
    isplitl [HO]; · iexact HO
    isplitl [Hp] <;> iassumption
  iintro ⟨HO, Hz, Hs⟩
  ihave Hpre := (Entails.of_eq (bigSep_sep' Finset.univ (fun s : Slot => slotAny (F := F) (pt c (mi s)) s)
    (fun s : Slot => iprop(dutyTok ER (sndC c s) 0 0 ∗ dutyTok ER (rcvC (pt c (mi s)) s) 0 0))).symm) $$ [Hs Ht]
  · isplitl [Hs] <;> iassumption
  ihave Hpre := (Entails.of_eq (show (bigSep Finset.univ fun s : Slot => iprop(slotAny (F := F) (pt c (mi s)) s
      ∗ dutyTok ER (sndC c s) 0 0 ∗ dutyTok ER (rcvC (pt c (mi s)) s) 0 0)) = _ from
    (bigSep_slot (fun s => preS c s)).trans (bigSep_cl _))) $$ Hpre
  ihave Hg := (Entails.of_eq ((bigSep_slot (fun s : Slot => gathS (F := F) c s)).trans (bigSep_cl _))) $$ Hg
  ihave Hb := (Entails.of_eq (bigSep_cl (fun q : Cl => sndAny (F := F) c q))) $$ Hb
  ihave Hout := (Entails.of_eq (bigSep_gh (fun gh : Fin 2 × Fin 2 => outAny (F := F) c gh.1 gh.2))) $$ Hout
  icases Hpre with ⟨Hp1, Hp2, Hp3, Hp4, Hp5, Hp6, Hp7, Hp8⟩
  icases Hg with ⟨Hg1, Hg2, Hg3, Hg4, Hg5, Hg6, Hg7, Hg8⟩
  icases Hb with ⟨Hb1, Hb2, Hb3, Hb4, Hb5, Hb6, Hb7, Hb8⟩
  icases Hout with ⟨Ho1, Ho2, Ho3, Ho4⟩
  iapply (wp_chunk A K c Q _ 0 0 x ga gb fe (hA 0 0) _ _ _ _ a0 a1 a2) $$ [HO Hw Ho1 Hb1 Hp1]
  · isplitr; · iexact HR
    isplitl [HO]; · iexact HO
    isplitl [Hw]; · iexact Hw
    isplitl [Ho1]; · iexact Ho1
    isplitl [Hb1] <;> iassumption
  iintro ⟨HO, Hw, Ho1, Hs1⟩
  iapply (wp_chunk A K c Q _ 1 0 x ga gb fe (hA 1 0) _ _ _ _ b0 b1 b2) $$ [HO Hw Ho2 Hb2 Hp2]
  · isplitr; · iexact HR
    isplitl [HO]; · iexact HO
    isplitl [Hw]; · iexact Hw
    isplitl [Ho2]; · iexact Ho2
    isplitl [Hb2] <;> iassumption
  iintro ⟨HO, Hw, Ho2, Hs2⟩
  iapply (wp_chunk A K c Q _ 0 1 x ga gb fe (hA 0 1) _ _ _ _ e0 e1 e2) $$ [HO Hw Ho3 Hb3 Hp3]
  · isplitr; · iexact HR
    isplitl [HO]; · iexact HO
    isplitl [Hw]; · iexact Hw
    isplitl [Ho3]; · iexact Ho3
    isplitl [Hb3] <;> iassumption
  iintro ⟨HO, Hw, Ho3, Hs3⟩
  iapply (wp_chunk A K c Q _ 1 1 x ga gb fe (hA 1 1) _ _ _ _ f0 f1 f2) $$ [HO Hw Ho4 Hb4 Hp4]
  · isplitr; · iexact HR
    isplitl [HO]; · iexact HO
    isplitl [Hw]; · iexact Hw
    isplitl [Ho4]; · iexact Ho4
    isplitl [Hb4] <;> iassumption
  iintro ⟨HO, Hw, Ho4, Hs4⟩
  iapply (wp_relay A K c Q _ 0 0 (q3 (1, 1, 0) (q3 (0, 1, 1) (q3 (1, 1, 1) []))) (above_second c (by decide)) _ _ _ a0' a1' a2') $$ [HO Ho1 Hs1 Hg1 Hb5 Hp5]
  · isplitr; · iexact HR
    isplitl [HO]; · iexact HO
    isplitl [Ho1]; · iexact Ho1
    isplitl [Hs1]; · iexact Hs1
    isplitl [Hg1]; · iexact Hg1
    isplitl [Hb5] <;> iassumption
  iintro ⟨HO, Ho1, Hd1, Hs5⟩
  iapply (wp_relay A K c Q _ 1 0 (q3 (0, 1, 1) (q3 (1, 1, 1) [])) (above_second c (by decide)) _ _ _ b0' b1' b2') $$ [HO Ho2 Hs2 Hg2 Hb6 Hp6]
  · isplitr; · iexact HR
    isplitl [HO]; · iexact HO
    isplitl [Ho2]; · iexact Ho2
    isplitl [Hs2]; · iexact Hs2
    isplitl [Hg2]; · iexact Hg2
    isplitl [Hb6] <;> iassumption
  iintro ⟨HO, Ho2, Hd2, Hs6⟩
  iapply (wp_relay A K c Q _ 0 1 (q3 (1, 1, 1) []) (above_second c (by decide)) _ _ _ e0' e1' e2') $$ [HO Ho3 Hs3 Hg3 Hb7 Hp7]
  · isplitr; · iexact HR
    isplitl [HO]; · iexact HO
    isplitl [Ho3]; · iexact Ho3
    isplitl [Hs3]; · iexact Hs3
    isplitl [Hg3]; · iexact Hg3
    isplitl [Hb7] <;> iassumption
  iintro ⟨HO, Ho3, Hd3, Hs7⟩
  iapply (wp_relay A K c Q _ 1 1 [] (above_second c (by decide)) _ _ _ f0' f1' f2') $$ [HO Ho4 Hs4 Hg4 Hb8 Hp8]
  · isplitr; · iexact HR
    isplitl [HO]; · iexact HO
    isplitl [Ho4]; · iexact Ho4
    isplitl [Hs4]; · iexact Hs4
    isplitl [Hg4]; · iexact Hg4
    isplitl [Hb8] <;> iassumption
  iintro ⟨HO, Ho4, Hd4, Hs8⟩
  iapply (wp_gather A K c Q (0, 1, 0) 0 (above_zero _)) $$ [HO Ho1 Hs5 Hg5]
  · isplitr; · iexact HR
    isplitl [HO]; · iexact HO
    isplitl [Ho1]; · iexact Ho1
    isplitl [Hs5] <;> iassumption
  iintro ⟨HO, Ho1, Hd5⟩
  iapply (wp_gather A K c Q (1, 1, 0) 0 (above_zero _)) $$ [HO Ho2 Hs6 Hg6]
  · isplitr; · iexact HR
    isplitl [HO]; · iexact HO
    isplitl [Ho2]; · iexact Ho2
    isplitl [Hs6] <;> iassumption
  iintro ⟨HO, Ho2, Hd6⟩
  iapply (wp_gather A K c Q (0, 1, 1) 0 (above_zero _)) $$ [HO Ho3 Hs7 Hg7]
  · isplitr; · iexact HR
    isplitl [HO]; · iexact HO
    isplitl [Ho3]; · iexact Ho3
    isplitl [Hs7] <;> iassumption
  iintro ⟨HO, Ho3, Hd7⟩
  iapply (wp_gather A K c Q (1, 1, 1) 0 (above_zero _)) $$ [HO Ho4 Hs8 Hg8]
  · isplitr; · iexact HR
    isplitl [HO]; · iexact HO
    isplitl [Ho4]; · iexact Ho4
    isplitl [Hs8] <;> iassumption
  iintro ⟨HO, Ho4, Hd8⟩
  unfold WP
  rw [wp_ret]
  imodintro
  iapply Hk
  isplitl [HO]; · iexact HO
  isplitl [Hz]; · iexact Hz
  isplitl [Hw]; · iexact Hw
  isplitl [Ho1 Ho2 Ho3 Ho4]
  · iapply (Entails.of_eq (bigSep_gh (fun gh : Fin 2 × Fin 2 => outAt (F := F) c gh.1 gh.2 (finV A gh.1 gh.2 c))).symm)
    isplitl [Ho1]; · iexact Ho1
    isplitl [Ho2]; · iexact Ho2
    isplitl [Ho3]; · iexact Ho3
    iexact Ho4
  iapply (Entails.of_eq ((bigSep_slot (fun s : Slot => doneS A c s)).trans (bigSep_cl _)).symm)
  isplitl [Hd1]; · iexact Hd1
  isplitl [Hd2]; · iexact Hd2
  isplitl [Hd3]; · iexact Hd3
  isplitl [Hd4]; · iexact Hd4
  isplitl [Hd5]; · iexact Hd5
  isplitl [Hd6]; · iexact Hd6
  isplitl [Hd7]; · iexact Hd7
  iexact Hd8

end Exch

end Cert.Moe

end
-- ==== Proof.Mem.lean ====
/-
The three buffers the exchange works on, cut into the blocks it works with and put together again.
-/
module

public import proofs.«01_k».proof.Proof.Exch
public import Idealize.ShloMosaic.Lib.ValueIdxCore

@[expose] public section

set_option synthInstance.maxSize 4096

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

local notation "𝕄" => MT nD τ sig Unit (Elt F) ℕ UU ℕ

/-! ## The blocks tile their buffers -/

/-- Clusters' blocks are apart on some axis. -/
theorem sApart : ∀ q q' : Cl, q ≠ q' → ∃ a, sOff q a + S1x1x1x64x256.size a ≤ sOff q' a ∨ sOff q' a + S1x1x1x64x256.size a ≤ sOff q a := by
  decide +kernel

/-- Slots' blocks are apart on some axis. -/
theorem rApart : ∀ s s' : Slot, s ≠ s' → ∃ a, rOff s a + S1x1x1x1x64x256.size a ≤ rOff s' a ∨ rOff s' a + S1x1x1x1x64x256.size a ≤ rOff s a := by
  decide +kernel

/-- Chunks' rows are apart on some axis. -/
theorem oApart : ∀ t t' : Fin 2 × Fin 2, t ≠ t' → ∃ a, oOff t.1 t.2 a + S64x256.size a ≤ oOff t'.1 t'.2 a
    ∨ oOff t'.1 t'.2 a + S64x256.size a ≤ oOff t.1 t.2 a := by
  decide +kernel

/-- Clusters' blocks do not meet. -/
theorem sDisj (q q' : Cl) (h : q ≠ q') : Disjoint (sRect q).set (sRect q').set := by
  obtain ⟨a, ha⟩ := sApart q q' h
  exact Rect.unit_disjoint a ha

/-- Slots' blocks do not meet. -/
theorem rDisj (s s' : Slot) (h : s ≠ s') : Disjoint (rRect s).set (rRect s').set := by
  obtain ⟨a, ha⟩ := rApart s s' h
  exact Rect.unit_disjoint a ha

/-- Chunks' rows do not meet. -/
theorem oDisj (t t' : Fin 2 × Fin 2) (h : t ≠ t') : Disjoint (oRect t.1 t.2).set (oRect t'.1 t'.2).set := by
  obtain ⟨a, ha⟩ := oApart t t' h
  exact Rect.unit_disjoint a ha

/-- Clusters' blocks are the whole send buffer. -/
theorem sCov : (Finset.univ : Finset Cl).biUnion (fun q => (sRect q).set) = Finset.univ := by
  refine Finset.eq_univ_iff_forall.mpr fun i => Finset.mem_biUnion.mpr ⟨(i 0, i 1, i 2), Finset.mem_univ _, ?_⟩
  refine Rect.mem_set_unit.mpr fun a => ?_
  fin_cases a
  · exact ⟨Nat.le_refl _, Nat.lt_succ_self _⟩
  · exact ⟨Nat.le_refl _, Nat.lt_succ_self _⟩
  · exact ⟨Nat.le_refl _, Nat.lt_succ_self _⟩
  · exact ⟨Nat.zero_le _, by show (i 3).val < 0 + 64; have : (i 3).val < 64 := (i 3).isLt; omega⟩
  · exact ⟨Nat.zero_le _, by show (i 4).val < 0 + 256; have : (i 4).val < 256 := (i 4).isLt; omega⟩

/-- Slots' blocks are the whole receive buffer. -/
theorem rCov : (Finset.univ : Finset Slot).biUnion (fun s => (rRect s).set) = Finset.univ := by
  refine Finset.eq_univ_iff_forall.mpr fun i => Finset.mem_biUnion.mpr ⟨((i 0, i 1, i 3), i 2), Finset.mem_univ _, ?_⟩
  refine Rect.mem_set_unit.mpr fun a => ?_
  fin_cases a
  · exact ⟨Nat.le_refl _, Nat.lt_succ_self _⟩
  · exact ⟨Nat.le_refl _, Nat.lt_succ_self _⟩
  · exact ⟨Nat.le_refl _, Nat.lt_succ_self _⟩
  · exact ⟨Nat.le_refl _, Nat.lt_succ_self _⟩
  · exact ⟨Nat.zero_le _, by show (i 4).val < 0 + 64; have : (i 4).val < 64 := (i 4).isLt; omega⟩
  · exact ⟨Nat.zero_le _, by show (i 5).val < 0 + 256; have : (i 5).val < 256 := (i 5).isLt; omega⟩

/-- The chunk a row lies in: its first number. -/
def rowG (r : Fin 256) : Fin 2 := ⟨r.val / 128, by omega⟩

/-- The chunk a row lies in: its second number. -/
def rowH (r : Fin 256) : Fin 2 := ⟨r.val / 64 % 2, by omega⟩

/-- A row's place in its chunk. -/
def rowIn (r : Fin 256) : Fin 64 := ⟨r.val % 64, by omega⟩

/-- Chunks' rows are all the rows. -/
theorem oCov : (Finset.univ : Finset (Fin 2 × Fin 2)).biUnion (fun t => (oRect t.1 t.2).set) = Finset.univ := by
  refine Finset.eq_univ_iff_forall.mpr fun i => Finset.mem_biUnion.mpr ⟨(rowG (i 0), rowH (i 0)), Finset.mem_univ _, ?_⟩
  refine Rect.mem_set_unit.mpr fun a => ?_
  have h0 : (i 0).val < 256 := (i 0).isLt
  fin_cases a
  · show ((i 0).val / 128 * 2 + (i 0).val / 64 % 2) * 64 ≤ (i 0).val ∧ (i 0).val < ((i 0).val / 128 * 2 + (i 0).val / 64 % 2) * 64 + 64
    omega
  · exact ⟨Nat.zero_le _, by show (i 1).val < 0 + 256; have : (i 1).val < 256 := (i 1).isLt; omega⟩

/-- A result glued of its chunks. -/
def outX (V : Fin 2 → Fin 2 → FVec F S64x256 .f32) : FVec F S256x256 .f32 :=
  fun i => V (rowG (i 0)) (rowH (i 0)) (ix2 (rowIn (i 0)) (i 1))

/-- A glued result's chunk. -/
theorem outX_emb (V : Fin 2 → Fin 2 → FVec F S64x256 .f32) (g h : Fin 2) : (fun j => outX V ((oRect g h).emb j)) = V g h := by
  funext j
  have hj : (j 0).val < 64 := (j 0).isLt
  have e0 : (((oRect g h).emb j) 0).val = (g.val * 2 + h.val) * 64 + 1 * (j 0).val := rfl
  have e1 : (((oRect g h).emb j) 1).val = 0 + 1 * (j 1).val := rfl
  have hg := g.isLt
  have hh := h.isLt
  unfold outX
  have a : rowG (((oRect g h).emb j) 0) = g := Fin.ext (by show (((oRect g h).emb j) 0).val / 128 = g.val; rw [e0]; omega)
  have b : rowH (((oRect g h).emb j) 0) = h := Fin.ext (by show (((oRect g h).emb j) 0).val / 64 % 2 = h.val; rw [e0]; omega)
  have d : rowIn (((oRect g h).emb j) 0) = j 0 := Fin.ext (by show (((oRect g h).emb j) 0).val % 64 = (j 0).val; rw [e0]; omega)
  have e : ((oRect g h).emb j) 1 = j 1 := Fin.ext (by rw [e1]; omega)
  rw [a, b, d, e]
  exact congrArg (V g h) (eq_ix2 j).symm

/-! ## Cutting and joining -/

section Mem
variable (c : Dev nD)

/-- Owning a memref at any contents is owning its elements. -/
theorem owns_ex {sp : Space} {sh : Shape} {e : EltTy} (m : Memref sig .tc sp sh e) :
    iprop(∃ X, owns (c : Thread nD τ) m fullShare X) ⊣⊢ (iprop(∃ f, m.view.loc (c : Thread nD τ) ↦[m.view.set]{fullShare} f) : sProp 𝕄) := by
  constructor
  · unfold owns
    iintro ⟨%X, %f, %hf, H⟩
    iexists f; iexact H
  · iintro ⟨%f, H⟩
    iexists (m.view.read (Elt F) f)
    iapply (owns_intro (c : Thread nD τ) m fullShare f); iexact H

/-- A cluster's block, squeezed or not. -/
theorem snd_sq (q : Cl) : sndAny (F := F) c q ⊣⊢ iprop(∃ X, owns (c : Thread nD τ) (sndM.slice (sRect q) (fun _ => rfl)) fullShare X) := by
  have hset : (sndSq q).view.set = (sndM.slice (sRect q) (fun _ => rfl)).view.set := View.set_reshape _ _
  have h := owns_ex (F := F) c (sndSq q)
  rw [hset] at h
  unfold sndAny
  exact h.trans (owns_ex (F := F) c (sndM.slice (sRect q) (fun _ => rfl))).symm

/-- A slot's block, squeezed or not. -/
theorem rcv_sq (s : Slot) : slotAny (F := F) c s ⊣⊢ iprop(∃ X, owns (c : Thread nD τ) (rcvM.slice (rRect s) (fun _ => rfl)) fullShare X) := by
  have hset : (rcvSq s).view.set = (rcvM.slice (rRect s) (fun _ => rfl)).view.set := View.set_reshape _ _
  have h := owns_ex (F := F) c (rcvSq s)
  rw [hset] at h
  unfold slotAny
  exact h.trans (owns_ex (F := F) c (rcvM.slice (rRect s) (fun _ => rfl))).symm

/-- A buffer at any contents is its slices at any contents, -/
theorem any_split {sp : Space} {sh : Shape} {e : EltTy} (m : Memref sig .tc sp sh e) {T : Type} [Fintype T] [DecidableEq T] (r : T → Rect sh)
    (hr : ∀ t a, (r t).stride a = 1) (hd : ∀ t t', t ≠ t' → Disjoint (r t).set (r t').set)
    (hcov : (Finset.univ : Finset T).biUnion (fun t => (r t).set) = Finset.univ) :
    iprop(∃ X, owns (c : Thread nD τ) m fullShare X)
      ⊢ (bigSep Finset.univ fun t => iprop(∃ X, owns (c : Thread nD τ) (m.slice (r t) (hr t)) fullShare X) : sProp 𝕄) := by
  have h (X : sh.Idx → Elt F e) (t : T) : (owns (c : Thread nD τ) (m.slice (r t) (hr t)) fullShare (fun j => X ((r t).emb j)) : sProp 𝕄)
      ⊢ iprop(∃ X, owns (c : Thread nD τ) (m.slice (r t) (hr t)) fullShare X) := by
    iintro H
    iexists _; iexact H
  iintro ⟨%X, H⟩
  iapply (show (owns (c : Thread nD τ) m fullShare X : sProp 𝕄) ⊢ bigSep Finset.univ fun t => iprop(∃ X, owns (c : Thread nD τ) (m.slice (r t) (hr t)) fullShare X) from
    (owns_rects (c : Thread nD τ) m fullShare r hr hd hcov X).trans (BI.bigSep_mono fun t _ => h X t))
  iexact H

/-- and back. -/
theorem any_join {sp : Space} {sh : Shape} {e : EltTy} (m : Memref sig .tc sp sh e) {T : Type} [Fintype T] [DecidableEq T] (r : T → Rect sh)
    (hr : ∀ t a, (r t).stride a = 1) (hd : ∀ t t', t ≠ t' → Disjoint (r t).set (r t').set)
    (hcov : (Finset.univ : Finset T).biUnion (fun t => (r t).set) = Finset.univ) :
    (bigSep Finset.univ fun t => iprop(∃ X, owns (c : Thread nD τ) (m.slice (r t) (hr t)) fullShare X) : sProp 𝕄)
      ⊢ iprop(∃ X, owns (c : Thread nD τ) m fullShare X) := by
  haveI : ∀ e, Nonempty (Elt F e) := inferInstance
  have h1 : (bigSep Finset.univ fun t => iprop(∃ X, owns (c : Thread nD τ) (m.slice (r t) (hr t)) fullShare X) : sProp 𝕄)
      ⊢ bigSep Finset.univ fun t => ownsSat (c : Thread nD τ) (m.slice (r t) (hr t)) fullShare (fun _ => True) :=
    BI.bigSep_mono fun t _ => (ownsSat_true (c : Thread nD τ) _ fullShare).2
  exact h1.trans ((ownsSat_of_rects (c : Thread nD τ) m fullShare r hr hd hcov fun _ _ => True).trans (ownsSat_any (c : Thread nD τ) m fullShare))

/-- The send buffer is the clusters' blocks, -/
theorem snd_split : iprop(∃ f : Buf (Elt F) ((c : Thread nD τ).loc cc0_scratch0), ((c : Thread nD τ).loc cc0_scratch0) ↦{fullShare} f)
    ⊢ (bigSep Finset.univ fun q : Cl => sndAny c q : sProp 𝕄) := by
  refine .trans ?_ ((any_split (F := F) c sndM sRect (fun _ _ => rfl) sDisj sCov).trans (BI.bigSep_mono fun q _ => (snd_sq c q).2))
  iintro ⟨%f, H⟩
  iexists f
  rw [owns_whole]; iexact H

/-- and back. -/
theorem snd_join : (bigSep Finset.univ fun q : Cl => sndAny c q : sProp 𝕄)
    ⊢ iprop(∃ f : Buf (Elt F) ((c : Thread nD τ).loc cc0_scratch0), ((c : Thread nD τ).loc cc0_scratch0) ↦{fullShare} f) := by
  have h : (iprop(∃ X, owns (c : Thread nD τ) sndM fullShare X) : sProp 𝕄)
      ⊢ iprop(∃ f : Buf (Elt F) ((c : Thread nD τ).loc cc0_scratch0), ((c : Thread nD τ).loc cc0_scratch0) ↦{fullShare} f) := by
    iintro ⟨%f, H⟩
    iexists f
    rw [owns_whole]
    exact .rfl
  exact ((BI.bigSep_mono fun q _ => (snd_sq c q).1).trans (any_join (F := F) c sndM sRect (fun _ _ => rfl) sDisj sCov)).trans h

/-- The receive buffer is the slots' blocks, -/
theorem rcv_split : iprop(∃ f : Buf (Elt F) ((c : Thread nD τ).loc cc0_scratch1), ((c : Thread nD τ).loc cc0_scratch1) ↦{fullShare} f)
    ⊢ (bigSep Finset.univ fun s : Slot => slotAny c s : sProp 𝕄) := by
  refine .trans ?_ ((any_split (F := F) c rcvM rRect (fun _ _ => rfl) rDisj rCov).trans (BI.bigSep_mono fun q _ => (rcv_sq c q).2))
  iintro ⟨%f, H⟩
  iexists f
  rw [owns_whole]; iexact H

/-- and back. -/
theorem rcv_join : (bigSep Finset.univ fun s : Slot => slotAny c s : sProp 𝕄)
    ⊢ iprop(∃ f : Buf (Elt F) ((c : Thread nD τ).loc cc0_scratch1), ((c : Thread nD τ).loc cc0_scratch1) ↦{fullShare} f) := by
  have h : (iprop(∃ X, owns (c : Thread nD τ) rcvM fullShare X) : sProp 𝕄)
      ⊢ iprop(∃ f : Buf (Elt F) ((c : Thread nD τ).loc cc0_scratch1), ((c : Thread nD τ).loc cc0_scratch1) ↦{fullShare} f) := by
    iintro ⟨%f, H⟩
    iexists f
    rw [owns_whole]
    exact .rfl
  exact ((BI.bigSep_mono fun q _ => (rcv_sq c q).1).trans (any_join (F := F) c rcvM rRect (fun _ _ => rfl) rDisj rCov)).trans h

/-- The landing blocks grouped by the partner they are handed to. -/
theorem rcv_give : (bigSep Finset.univ fun s : Slot => slotAny c s : sProp 𝕄) ⊢ bigSep Finset.univ fun d : Fin 6 => barGive (F := F) c d := by
  rw [bigSep_univ_equiv se, bigSep_univ_prod]
  exact .rfl

/-- The result's staging buffer is its chunks, -/
theorem out_split (X : FVec F S256x256 .f32) : (((c : Thread nD τ).loc cc0_stg4_0) ↦{fullShare} X : sProp 𝕄)
    ⊢ bigSep Finset.univ fun gh : Fin 2 × Fin 2 => outAny (F := F) c gh.1 gh.2 := by
  refine .trans ?_ (any_split (F := F) c outM (fun gh : Fin 2 × Fin 2 => oRect gh.1 gh.2) (fun _ _ => rfl) oDisj oCov)
  iintro H
  iexists X
  rw [owns_whole]; iexact H

/-- and back, at the glued contents. -/
theorem out_join (V : Fin 2 → Fin 2 → FVec F S64x256 .f32) :
    (bigSep Finset.univ fun gh : Fin 2 × Fin 2 => outAt (F := F) c gh.1 gh.2 (V gh.1 gh.2) : sProp 𝕄)
      ⊢ (((c : Thread nD τ).loc cc0_stg4_0) ↦{fullShare} (outX V) : sProp 𝕄) := by
  haveI : ∀ e, Nonempty (Elt F e) := inferInstance
  have h := owns_of_rects (Ix := Unit) (Val := Elt F) (Name := ℕ) (U := UU) (Lvl := ℕ) (c : Thread nD τ) outM fullShare (fun gh : Fin 2 × Fin 2 => oRect gh.1 gh.2) (fun _ _ => rfl) oDisj oCov (outX V)
  rw [owns_whole] at h
  have h1 (gh : Fin 2 × Fin 2) : (outAt (F := F) c gh.1 gh.2 (V gh.1 gh.2) : sProp 𝕄)
      ⊢ owns (c : Thread nD τ) (outM.slice (oRect gh.1 gh.2) (fun _ => rfl)) fullShare (fun j => outX V ((oRect gh.1 gh.2).emb j)) := by
    rw [outX_emb]; exact .rfl
  exact (BI.bigSep_mono fun gh _ => h1 gh).trans h

end Mem

end Cert.Moe

end
-- ==== Proof.Body.lean ====
/-
The kernel's body against the pipeline: what a device holds before and after it, and that the body takes the one to the
other.
-/
module

public import proofs.«01_k».proof.Proof.Mem
public import proofs.«01_k».proof.Proof.Gen.KernelIdeal.Frame
public import proofs.«01_k».proof.Proof.Gen.KernelIdeal.Points

@[expose] public section

set_option synthInstance.maxSize 4096

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch state. -/
abbrev s₀ : MemSt nD τ sig (Elt F) := ⟨m, fun _ => 0, ρ⟩

/-! ## The staged inputs and the result -/

/-- The tokens as staged on a device. -/
def xb (c : Dev nD) : FVec F S256x128 .f32 := iblk m c 0 t0_0

/-- The router's weights as staged on a device. -/
def rb (c : Dev nD) : FVec F S128x32 .f32 := iblk m c 1 t0_0

/-- The routing indices as staged on a device. -/
def ib (c : Dev nD) : (cc0_stg2_0 : Ref sig .tc).ty.Contents (Elt F) := iblk m c 2 t0_0

/-- The experts' weights as staged on a device. -/
def eb (c : Dev nD) : (cc0_stg3_0 : Ref sig .tc).ty.Contents (Elt F) := iblk m c 3 t0_0

/-- The first column of the routing indices. -/
def i0b (c : Dev nD) : Vec F S256x1 .i32 :=
  (Memref.whole cc0_stg2_0 : Memref sig .tc .vmem S256x2 .i32).view.readAt (Elt F)
    (Rect.unit (s := S256x2) ![0, 0] S256x1.size Facts₀.inb_S256x2_S256x1_0_0).toLoadRect (ib m c)

/-- The second column of the routing indices. -/
def i1b (c : Dev nD) : Vec F S256x1 .i32 :=
  (Memref.whole cc0_stg2_0 : Memref sig .tc .vmem S256x2 .i32).view.readAt (Elt F)
    (Rect.unit (s := S256x2) ![0, 1] S256x1.size Facts₀.inb_S256x2_S256x1_0_1).toLoadRect (ib m c)

/-- A device's own product on a chunk. -/
def AV (c : Dev nD) (g h : Fin 2) : FVec F S64x256 .f32 :=
  acc g h (k0_pay2 (xb m c)) (gate0 (word c) (xb m c) (rb m c) (i0b m c) (i1b m c)) (gate1 (word c) (xb m c) (rb m c) (i0b m c) (i1b m c))
    (wAt c 0 (eb m c)) (wAt c 1 (eb m c))

/-- A device's result. -/
def outB (c : Dev nD) : FVec F S256x256 .f32 := outX fun g h => finV (AV m) g h c

/-! ## Before and after -/

/-- A device's positions, tokens and credit for the exchange. -/
def linear (c : Dev nD) : sProp 𝕄 :=
  iprop((bigSep Finset.univ fun k : CK => atPos ER (kcell (c, k)) 0 ∅ 0)
    ∗ (bigSep Finset.univ fun d : Fin 6 => dutyTok ER (barC (pt c d)) 0 d)
    ∗ (bigSep Finset.univ fun s : Slot => iprop(dutyTok ER (sndC c s) 0 0 ∗ dutyTok ER (rcvC (pt c (mi s)) s) 0 0)))

/-- A device's credit at launch. -/
def credit (c : Dev nD) : sProp 𝕄 :=
  iprop(cred (tallyAt (barC c) () 6) ∗ bigSep Finset.univ fun s : Slot => cred (tallyAt (rcvC c s) () N))

/-- What a device starts the exchange from. -/
def start (c : Dev nD) : sProp 𝕄 := iprop((∃ K, recs (AV m) K ∗ linear c) ∗ credit c)

/-- A device's two exchange buffers, holding anything. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the body. -/
def Φ₀ (c : Dev nD) : sProp 𝕄 := iprop(start m c ∗ scratch c)

/-- After the body. -/
def Φ₁ (c : Dev nD) : sProp 𝕄 :=
  iprop(scratch c ∗ semVal (barC c) 0 ∗ bigSep Finset.univ fun s : Slot => iprop(semVal (sndC c s) 0 ∗ semVal (rcvC c s) 0))

/-- The pipeline's data. -/
def dats (_ : Fin 1) (c : Dev nD) : Dat τ (Elt F) Unit ℕ UU ℕ cfg0 c where
  A w := V m c (Pipeline.arrRef spec0 w)
  after w _ := match w with
    | ⟨0, _⟩ => xb m c
    | ⟨1, _⟩ => rb m c
    | ⟨2, _⟩ => ib m c
    | ⟨3, _⟩ => eb m c
    | ⟨4, _⟩ => outB m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

/-- Over the exchange's semaphores: the barrier, the send semaphores, the receive semaphores. -/
theorem bigSep_ck (Φ : CK → sProp 𝕄) : bigSep Finset.univ Φ
    = iprop(Φ (.inl ()) ∗ (bigSep Finset.univ fun s : Slot => Φ (.inr (.inl s))) ∗ bigSep Finset.univ fun s : Slot => Φ (.inr (.inr s))) := by
  rw [bigSep_univ_sum, bigSep_univ_sum]
  rw [show (bigSep Finset.univ fun u : Unit => Φ (.inl u)) = Φ (.inl ()) from bigSep_singleton (i := ()) (Φ := fun u : Unit => Φ (.inl u))]
  rfl

/-- What is left of a finished exchange, put together: the exchange's buffers and its semaphores at zero. -/
theorem done_join (A : Dev nD → Fin 2 → Fin 2 → FVec F S64x256 .f32) (c : Dev nD) :
    (bigSep Finset.univ fun s : Slot => doneS A c s : sProp 𝕄)
      ⊢ iprop(scratch c ∗ bigSep Finset.univ fun s : Slot => iprop(semVal (sndC c s) 0 ∗ semVal (rcvC c s) 0)) := by
  have h1 (q : Cl) : tri (sndPay A c) q ⊢ sndAny (F := F) c q := by
    refine (snd_thirds A c q).2.trans ?_
    unfold sndAny
    iintro H
    iexists _; iexact H
  have h2 : (bigSep Finset.univ fun s : Slot => sndPay A c s : sProp 𝕄) ⊢ bigSep Finset.univ fun q : Cl => sndAny c q := by
    rw [bigSep_slot]
    exact BI.bigSep_mono fun q _ => h1 q
  unfold doneS scratch
  rw [bigSep_sep', bigSep_sep']
  iintro ⟨Hs, Hr, Hz⟩
  isplitr [Hz]
  · isplitl [Hs]
    · iapply (snd_join (F := F) c)
      iapply h2; iexact Hs
    · iapply (rcv_join (F := F) c); iexact Hr
  iexact Hz

/-- The offsets of a whole load. -/
theorem hz2 : (![0, 0] : Fin 2 → Nat) = fun _ => 0 := funext fun a => by fin_cases a <;> rfl

/-- The tokens' load reads them all. -/
theorem read_x (f : (cc0_stg0_0 : Ref sig .tc).ty.Contents (Elt F)) :
    (Memref.whole cc0_stg0_0 : Memref sig .tc .vmem S256x128 .f32).view.readAt (Elt F)
      (Rect.unit (s := S256x128) ![0, 0] S256x128.size Facts₀.inb_S256x128_S256x128_0_0).toLoadRect f = f :=
  Memref.readAt_unit_zero (Elt F) cc0_stg0_0 hz2 _ f

/-- The router's load reads it all. -/
theorem read_r (f : (cc0_stg1_0 : Ref sig .tc).ty.Contents (Elt F)) :
    (Memref.whole cc0_stg1_0 : Memref sig .tc .vmem S128x32 .f32).view.readAt (Elt F)
      (Rect.unit (s := S128x32) ![0, 0] S128x32.size Facts₀.inb_S128x32_S128x32_0_0).toLoadRect f = f :=
  Memref.readAt_unit_zero (Elt F) cc0_stg1_0 hz2 _ f

/-- The first index column's load. -/
theorem read_i0 (c : Dev nD) : (Memref.whole cc0_stg2_0 : Memref sig .tc .vmem S256x2 .i32).view.readAt (Elt F)
    (Rect.unit (s := S256x2) ![0, 0] S256x1.size Facts₀.inb_S256x2_S256x1_0_0).toLoadRect (ib m c) = i0b m c := rfl

/-- The second index column's load. -/
theorem read_i1 (c : Dev nD) : (Memref.whole cc0_stg2_0 : Memref sig .tc .vmem S256x2 .i32).view.readAt (Elt F)
    (Rect.unit (s := S256x2) ![0, 1] S256x1.size Facts₀.inb_S256x2_S256x1_0_1).toLoadRect (ib m c) = i1b m c := rfl

/-- A staging buffer whole, at known contents. -/
abbrev stg (c : Dev nD) (b : Ref sig .tc) (X : b.ty.Contents (Elt F)) : sProp 𝕄 := (((c : Thread nD τ).loc b) ↦{fullShare} X)

set_option maxHeartbeats 1600000 in
/-- The body from what a device starts with to what it ends with. -/
theorem sound_body (c : Dev nD) (Q : PUnit.{1} → sProp (MT nD τ sig Unit (Elt F) ℕ UU ℕ)) (X : FVec F S256x256 .f32) :
    iprop(Φ₀ m c ∗ owesAny c (O₀ c) ∗ stg c cc0_stg0_0 (xb m c) ∗ stg c cc0_stg1_0 (rb m c) ∗ stg c cc0_stg2_0 (ib m c)
        ∗ stg c cc0_stg3_0 (eb m c) ∗ stg c cc0_stg4_0 X)
      ⊢ iprop(((Φ₁ c ∗ owesAny c 0 ∗ stg c cc0_stg0_0 (xb m c) ∗ stg c cc0_stg1_0 (rb m c) ∗ stg c cc0_stg2_0 (ib m c)
          ∗ stg c cc0_stg3_0 (eb m c) ∗ stg c cc0_stg4_0 (outB m c)) -∗ Q ⟨⟩) -∗ WP c bodyP Q) := by
  obtain ⟨e1, e2, e3, e4, e5, e6⟩ := dev_sig c
  have hA : ∀ g h, acc g h (k0_pay2 (xb m c)) (gate0 (word c) (xb m c) (rb m c) (i0b m c) (i1b m c))
      (gate1 (word c) (xb m c) (rb m c) (i0b m c) (i1b m c)) (wAt c 0 (eb m c)) (wAt c 1 (eb m c)) = AV m c g h := fun g h => rfl
  unfold Φ₀ start scratch linear credit bodyP
  iintro ⟨⟨⟨⟨%K, #HR, Hpos, Hbt, Htk⟩, Hcb, Hcr⟩, Hsc0, Hsc1⟩, HO, Hx, Hr, Hi, He, Ho⟩ Hk
  simp only [wp_deviceId]
  ihave Hsnd := (snd_split (F := F) c) $$ Hsc0
  ihave Hrcv := ((rcv_split (F := F) c).trans (rcv_give (F := F) c)) $$ Hsc1
  ihave Hrcv := (Entails.of_eq (bigSep_mask (fun d : Fin 6 => barGive (F := F) c d))) $$ Hrcv
  ihave Hbt := (Entails.of_eq (bigSep_mask (fun d : Fin 6 => (dutyTok ER (barC (pt c d)) 0 d : sProp 𝕄)))) $$ Hbt
  icases Hrcv with ⟨Hg1, Hg2, Hg3, Hg4, Hg5, Hg6⟩
  icases Hbt with ⟨Ht1, Ht2, Ht3, Ht4, Ht5, Ht6⟩
  unfold O₀
  iapply (wp_sig (AV m) K c Q _ 0 sOrd [1, 2, 3, 4, 5] _ e1) $$ [HO Ht1 Hg1]
  · isplitr; · iexact HR
    isplitl [HO]; · iexact HO
    isplitl [Ht1] <;> iassumption
  iintro HO
  iapply (wp_sig (AV m) K c Q _ 1 sOrd [2, 3, 4, 5] _ e2) $$ [HO Ht2 Hg2]
  · isplitr; · iexact HR
    isplitl [HO]; · iexact HO
    isplitl [Ht2] <;> iassumption
  iintro HO
  iapply (wp_sig (AV m) K c Q _ 2 sOrd [3, 4, 5] _ e3) $$ [HO Ht3 Hg3]
  · isplitr; · iexact HR
    isplitl [HO]; · iexact HO
    isplitl [Ht3] <;> iassumption
  iintro HO
  iapply (wp_sig (AV m) K c Q _ 3 sOrd [4, 5] _ e4) $$ [HO Ht4 Hg4]
  · isplitr; · iexact HR
    isplitl [HO]; · iexact HO
    isplitl [Ht4] <;> iassumption
  iintro HO
  iapply (wp_sig (AV m) K c Q _ 4 sOrd [5] _ e5) $$ [HO Ht5 Hg5]
  · isplitr; · iexact HR
    isplitl [HO]; · iexact HO
    isplitl [Ht5] <;> iassumption
  iintro HO
  iapply (wp_sig (AV m) K c Q _ 5 sOrd [] _ e6) $$ [HO Ht6 Hg6]
  · isplitr; · iexact HR
    isplitl [HO]; · iexact HO
    isplitl [Ht6] <;> iassumption
  iintro HO
  iapply (wp_load 𝒱₀ (c : Thread nD τ) none Set.univ (m := (Memref.whole cc0_stg0_0 : Memref sig .tc .vmem S256x128 .f32)) (Finset.subset_univ _)) $$ Hx; iintro Hx
  rw [read_x]
  iapply (wp_load 𝒱₀ (c : Thread nD τ) none Set.univ (m := (Memref.whole cc0_stg1_0 : Memref sig .tc .vmem S128x32 .f32)) (Finset.subset_univ _)) $$ Hr; iintro Hr
  rw [read_r]
  iapply (wp_load 𝒱₀ (c : Thread nD τ) none Set.univ (m := (Memref.whole cc0_stg2_0 : Memref sig .tc .vmem S256x2 .i32)) (Finset.subset_univ _)) $$ Hi; iintro Hi
  iapply (wp_load 𝒱₀ (c : Thread nD τ) none Set.univ (m := (Memref.whole cc0_stg2_0 : Memref sig .tc .vmem S256x2 .i32)) (Finset.subset_univ _)) $$ Hi; iintro Hi
  rw [read_i0, read_i1]
  ihave Hpos := (Entails.of_eq (bigSep_ck (fun k : CK => (atPos ER (kcell (c, k)) 0 ∅ 0 : sProp 𝕄)))) $$ Hpos
  icases Hpos with ⟨HpB, HpS, HpR⟩
  iapply (wp_exch (AV m) K c Q (k0_pay2 (xb m c)) (gate0 (word c) (xb m c) (rb m c) (i0b m c) (i1b m c))
    (gate1 (word c) (xb m c) (rb m c) (i0b m c) (i1b m c)) (eb m c) hA) $$ [HO HpB Hcb He Ho Hsnd Htk HpS HpR Hcr]
  · isplitr; · iexact HR
    isplitl [HO]; · iexact HO
    isplitl [HpB]; · iexact HpB
    isplitl [Hcb]; · iexact Hcb
    isplitl [He]; · unfold ewAt; rw [View.set_whole]; iexact He
    isplitl [Ho]; · iapply (out_split c X); iexact Ho
    isplitl [Hsnd]; · iexact Hsnd
    isplitl [Htk]; · iexact Htk
    unfold gathS
    rw [bigSep_sep', bigSep_sep']
    isplitl [HpS]; · iexact HpS
    isplitl [HpR]; · iexact HpR
    iexact Hcr
  iintro ⟨HO, Hz, He, Ho, Hd⟩
  iapply Hk
  ihave Hd := (done_join (AV m) c) $$ Hd
  icases Hd with ⟨Hsc, Hzs⟩
  unfold Φ₁
  isplitl [Hsc Hz Hzs]
  · isplitl [Hsc]; · iexact Hsc
    isplitl [Hz] <;> iassumption
  isplitl [HO]; · iexact HO
  isplitl [Hx]; · iexact Hx
  isplitl [Hr]; · iexact Hr
  isplitl [Hi]; · iexact Hi
  isplitl [He]; · unfold ewAt; rw [View.set_whole]; iexact He
  iapply (out_join c (fun g h => finV (AV m) g h c)); iexact Ho

/-! ## The library's obligation -/

/-- A staging buffer as the library owns it. -/
abbrev stgE (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Before the body, as the library states it. -/
def bodyPre (c : Dev nD) : sProp 𝕄 :=
  iprop(Φ₀ m c ∗ (dats m 0 c).owesAt () t0_0.castSucc
    ∗ (∃ d, stgE c cc0_stg0_0 ((dats m 0 c).before (0 : Fin 5) t0_0 d))
    ∗ (∃ d, stgE c cc0_stg1_0 ((dats m 0 c).before (1 : Fin 5) t0_0 d))
    ∗ (∃ d, stgE c cc0_stg2_0 ((dats m 0 c).before (2 : Fin 5) t0_0 d))
    ∗ (∃ d, stgE c cc0_stg3_0 ((dats m 0 c).before (3 : Fin 5) t0_0 d))
    ∗ (∃ d, stgE c cc0_stg4_0 ((dats m 0 c).before (4 : Fin 5) t0_0 d)))

/-- After the body, as the library states it. -/
def bodyPost (c : Dev nD) : sProp 𝕄 :=
  iprop(Φ₁ c ∗ (dats m 0 c).owesAt () t0_0.succ ∗ stgE c cc0_stg0_0 (xb m c) ∗ stgE c cc0_stg1_0 (rb m c) ∗ stgE c cc0_stg2_0 (ib m c)
    ∗ stgE c cc0_stg3_0 (eb m c) ∗ stgE c cc0_stg4_0 (outB m c))

/-- The body with the library's statement of before and after. -/
theorem sound_body' (c : Dev nD) : bodyPre m c ⊢ WP c bodyP (fun _ => bodyPost m c) := by
  have h0 (d) : (dats m 0 c).before (0 : Fin 5) t0_0 d = xb m c := by unfold Dat.before; rw [if_pos (fetch0_0 t0_0)]; rfl
  have h1 (d) : (dats m 0 c).before (1 : Fin 5) t0_0 d = rb m c := by unfold Dat.before; rw [if_pos (fetch0_1 t0_0)]; rfl
  have h2 (d) : (dats m 0 c).before (2 : Fin 5) t0_0 d = ib m c := by unfold Dat.before; rw [if_pos (fetch0_2 t0_0)]; rfl
  have h3 (d) : (dats m 0 c).before (3 : Fin 5) t0_0 d = eb m c := by unfold Dat.before; rw [if_pos (fetch0_3 t0_0)]; rfl
  unfold bodyPre bodyPost Dat.owesAt Pipeline.owesWithin
  simp only [h0, h1, h2, h3]
  rw [show (dats m 0 c).owed t0_0.castSucc = O₀ c from rfl, show (dats m 0 c).owed t0_0.succ = 0 from rfl]
  iintro ⟨HΦ, ⟨%W, %hW, HO⟩, ⟨%d0, %g0, %e0, Hx⟩, ⟨%d1, %g1, %e1, Hr⟩, ⟨%d2, %g2, %e2, Hi⟩, ⟨%d3, %g3, %e3, He⟩, ⟨%d4, %g4, %e4, Ho⟩⟩
  subst e0; subst e1; subst e2; subst e3
  iapply (sound_body m c _ g4) $$ [HΦ HO Hx Hr Hi He Ho]
  · isplitl [HΦ]; · iexact HΦ
    isplitl [HO]; · unfold owesAny; iexists W; iexact HO
    isplitl [Hx]; · iexact Hx
    isplitl [Hr]; · iexact Hr
    isplitl [Hi]; · iexact Hi
    isplitl [He]; · iexact He
    iexact Ho
  unfold owesAny
  iintro ⟨HΦ, ⟨%W', HO⟩, Hx, Hr, Hi, He, Ho⟩
  isplitl [HΦ]; · iexact HΦ
  isplitl [HO]
  · iexists W'
    isplitr; · ipureintro; exact fun _ _ => Or.inl trivial
    iexact HO
  isplitl [Hx]; · iexists _; isplitr; · (ipureintro; rfl)
                  iexact Hx
  isplitl [Hr]; · iexists _; isplitr; · (ipureintro; rfl)
                  iexact Hr
  isplitl [Hi]; · iexists _; isplitr; · (ipureintro; rfl)
                  iexact Hi
  isplitl [He]; · iexists _; isplitr; · (ipureintro; rfl)
                  iexact He
  iexists _; isplitr; · (ipureintro; rfl)
  iexact Ho

/-- The program the pipeline calls at its one point is the body. -/
theorem call_eq : defs₀ (F := F) Proc.tc 0 (t0_0, cfg0.slots t0_0) = bodyP := by
  rw [← body_eq]
  rfl

set_option maxRecDepth 20000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  rw [call_eq]
  exact sound_body' m c

end Cert.Moe

end
-- ==== Proof.Launch.lean ====
/-
The launch and the run: the exchange's tokens and credit dealt to the devices, and every execution of the kernel's main
function ended with the result on every device.
-/
module

public import proofs.«01_k».proof.Proof.Body
public import proofs.«01_k».proof.Proof.Gen.KernelIdeal.Launch
public import Idealize.ShloMosaic.Lib.Pipeline.CollectiveSegs

@[expose] public section

set_option synthInstance.maxSize 4096

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The exchange's own semaphores -/

/-- The send and receive semaphores, the kernel's own. -/
def osem (k : Slot ⊕ Slot) : SemLoc sig := csem (.inr k)

set_option maxRecDepth 20000 in
/-- The numbers of the staging semaphores are below five. -/
theorem stage_sem : ∀ (w : Fin 5) (s : Fin (spec0 w).nbuf), ((spec0 w).sem s).val < 5 := by decide

/-- No exchange semaphore is a staging semaphore. -/
theorem csem_stage (k : CK) (w : Fin 5) (s : Fin (spec0 w).nbuf) : csem k ≠ .dma ((spec0 w).sem s) := by
  have h := stage_sem w s
  rcases k with u | s' | s'
  · intro h'; cases h'
  · intro h'
    have := congrArg Fin.val (SemLoc.dma.inj h')
    rw [sSem_val] at this; omega
  · intro h'
    have := congrArg Fin.val (SemLoc.dma.inj h')
    rw [rSem_val] at this; omega

/-- What the launch asks of the own semaphores. -/
theorem ownSemFacts : Pipeline.OwnSemFacts cfg0.spec osem where
  isScoped k := by
    rcases k with s | s
    · revert s; decide +kernel
    · revert s; decide +kernel
  inj k k' h := Sum.inr.inj (csem_inj h)
  disj k w s := csem_stage (.inr k) w s

/-- The barrier semaphore is the launch's one unscoped semaphore. -/
theorem unscopedSems0_eq (c : Dev nD) : (unscopedSems0 c : sProp 𝕄) = semVal (barC c) 0 := by
  unfold unscopedSems0; rw [bigSep_eq_bigSepL_of_eq [SemLoc.reg barS] (by decide +kernel) (by decide)]; rfl

/-- The own semaphores, by slot. -/
theorem ownSems0_eq (c : Dev nD) : (Pipeline.ownSems0 (Ix := Unit) (Name := ℕ) (U := UU) (Lvl := ℕ) (Val := Elt F) (τ := τ) osem c : sProp 𝕄)
    = iprop((bigSep Finset.univ fun s : Slot => semVal (sndC c s) 0) ∗ bigSep Finset.univ fun s : Slot => semVal (rcvC c s) 0) := by
  unfold Pipeline.ownSems0
  rw [bigSep_univ_sum]; rfl

/-- Every window's share is whole. -/
theorem share_eq (c : Dev nD) (w : Fin cfg0.W) : (dats m 0 c).share w = fullShare := by unfold Dat.share; split <;> rfl

/-! ## The launch element -/

/-- Exchange cells are different. -/
theorem kcell_inj : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- The exchange's cells. -/
def exCells : Finset (GSem nD τ sig) := Finset.univ.map ⟨kcell, kcell_inj⟩

/-- A device's duties by their cells: the barrier's six, and one for each send and receive cell. -/
def tokOf (cj : Dev nD × (Fin 6 ⊕ (Slot ⊕ Slot))) : GSem nD τ sig × ℕ × D := match cj.2 with
  | .inl d => (kcell (cj.1, .inl ()), 0, d)
  | .inr k => (kcell (cj.1, .inr k), 0, 0)

/-- Duties are different. -/
theorem tokOf_inj : Function.Injective tokOf := by
  rintro ⟨c, d | k⟩ ⟨c', d' | k'⟩ h
  · have h1 := kcell_inj (congrArg Prod.fst h)
    have h2 : d = d' := congrArg (fun x : GSem nD τ sig × ℕ × D => x.2.2) h
    cases h1; rw [h2]
  · have h1 := kcell_inj (congrArg Prod.fst h)
    cases h1
  · have h1 := kcell_inj (congrArg Prod.fst h)
    cases h1
  · have h1 := kcell_inj (congrArg Prod.fst h)
    cases h1; rfl

/-- The exchange's duties. -/
def exToks : Finset (GSem nD τ sig × ℕ × D) := Finset.univ.map ⟨tokOf, tokOf_inj⟩

/-- The launch element. -/
def u₀ : UU :=
  (initOf (Pipeline.cells cfgs cellOf_inj) (Pipeline.launchToks cfgs cellOf_inj), initOf exCells exToks)

/-- The duty tokens of a device's own cells. -/
def toks (c : Dev nD) : sProp 𝕄 :=
  iprop((bigSep Finset.univ fun d : Fin 6 => dutyTok ER (barC c) 0 d)
    ∗ (bigSep Finset.univ fun s : Slot => dutyTok ER (sndC c s) 0 0) ∗ bigSep Finset.univ fun s : Slot => dutyTok ER (rcvC c s) 0 0)

/-- What a device's cells start from. -/
def G (c : Dev nD) : sProp 𝕄 :=
  iprop((bigSep Finset.univ fun k : CK => roundState ER (Rd (AV m)) (kcell (c, k)) 0)
    ∗ (bigSep Finset.univ fun k : CK => iprop(atPos ER (kcell (c, k)) 0 ∅ 0 ∗ reached ER (kcell (c, k)) 0)) ∗ toks c)

/-- What every device knows, but for the levels. -/
def recs' (K : Dev nD × CK → ℕ) : sProp 𝕄 :=
  bigSep Finset.univ fun ck => iprop(cellInv ER (Rd (AV m)) (K ck) (kcell ck) ∗ reached ER (kcell ck) 0)

/-- The launch's records can be used again and again. -/
instance recs'_persistent (K : Dev nD × CK → ℕ) : BI.Persistent (recs' m K) := by unfold recs'; infer_instance

/-- What a device holds once the cells are set up. -/
def G' (c : Dev nD) : sProp 𝕄 := iprop(∃ K, recs' m K ∗ linear c)

/-- The launch element, dealt out by device. -/
theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (Rd (AV m)) exCells exToks) $$ HX with ⟨Hst, Hr, Hat, Htok⟩
  imodintro
  ihave Hst' := (Entails.of_eq (hX fun g => roundState ER (Rd (AV m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's semaphores at zero are its exchange cells' values. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_ck]
  iintro ⟨⟨HS, HV⟩, HB⟩
  isplitl [HB]; · iexact HB
  isplitl [HS]; · iexact HS
  iexact HV

/-- A device's cells set up. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (AV m)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd (AV m)) (kcell (c, k)) 0)
      ⊢ (|={Set.univ}=> bigSep Finset.univ fun k => iprop(∃ κ : ℕ, cellInv ER (Rd (AV m)) κ (kcell (c, k))) : sProp 𝕄) from by
        rw [← bigSep_sep']
        exact (bigSep_mono fun k _ => (Rounds.body_intro ER (Rd (AV m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Pairing by a mask, as a bijection. -/
def ptE (d : Fin 6) : Dev nD ≃ Dev nD := ⟨fun c => pt c d, fun c => pt c d, fun c => pt_pt c d, fun c => pt_pt c d⟩

/-- Over pairs, in either order. -/
theorem bigSep_swap {I J : Type} [Fintype I] [Fintype J] (Φ : I → J → sProp 𝕄) :
    (bigSep Finset.univ fun i : I => bigSep Finset.univ fun j : J => Φ i j)
      = bigSep Finset.univ fun j : J => bigSep Finset.univ fun i : I => Φ i j := by
  rw [← bigSep_univ_prod (fun x : I × J => Φ x.1 x.2), bigSep_univ_equiv (Equiv.prodComm J I), bigSep_univ_prod]
  rfl

/-- Something held of every device and every one of several masks is held of the partners. -/
theorem around {J : Type} [Fintype J] [DecidableEq J] (μ : J → Fin 6) (Φ : Dev nD → J → sProp 𝕄) :
    (bigSep Finset.univ fun c : Dev nD => bigSep Finset.univ fun j : J => Φ c j)
      = bigSep Finset.univ fun c : Dev nD => bigSep Finset.univ fun j : J => Φ (pt c (μ j)) j := by
  rw [bigSep_swap, bigSep_swap fun (c : Dev nD) j => Φ (pt c (μ j)) j]
  exact bigSep_congr fun j _ => bigSep_univ_equiv (ptE (μ j)) fun c => Φ c j

/-- The tokens a device pays with. -/
def payToks (c : Dev nD) : sProp 𝕄 :=
  iprop((bigSep Finset.univ fun d : Fin 6 => dutyTok ER (barC (pt c d)) 0 d)
    ∗ (bigSep Finset.univ fun s : Slot => iprop(dutyTok ER (sndC c s) 0 0 ∗ dutyTok ER (rcvC (pt c (mi s)) s) 0 0)))

/-- The tokens dealt to those who pay with them. -/
theorem toks_around : (bigSep Finset.univ fun c : Dev nD => (toks c : sProp 𝕄)) ⊢ bigSep Finset.univ fun c : Dev nD => payToks c := by
  unfold toks payToks
  simp only [bigSep_sep']
  rw [around (fun d : Fin 6 => d) (fun c d => (dutyTok ER (barC c) 0 d : sProp 𝕄)),
    around mi (fun c s => (dutyTok ER (rcvC c s) 0 0 : sProp 𝕄))]

/-- Something known beside each of many. -/
theorem bigSep_with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' cells together: the invariants known to all, the tokens where they are paid. -/
theorem regroup :
    (bigSep Finset.univ fun c : Dev nD => iprop((bigSep Finset.univ fun k => iprop(∃ κ : ℕ, cellInv ER (Rd (AV m)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  have hG (K : Dev nD × CK → ℕ) (c : Dev nD) : iprop(recs' m K ∗ linear c) ⊢ G' m c := by
    unfold G'
    iintro H
    iexists K; iexact H
  rw [bigSep_sep', bigSep_sep', ← bigSep_univ_prod (fun ck : Dev nD × CK => iprop(∃ κ : ℕ, cellInv ER (Rd (AV m)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd (AV m)) κ (kcell ck) : sProp 𝕄))) $$ HI
  icases HK with ⟨%K, #HI⟩
  ihave Htk := (toks_around (F := F)) $$ Htok
  iapply (bigSep_with_known (R := recs' m K) fun c _ => hG K c)
  isplitr
  · unfold recs'; rw [bigSep_sep']
    isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq rfl))
    isplitl [Hat]; · iexact Hat
    iexact Htk

/-- The set-up of all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A cell is owed by the one partner that pays into it. -/
theorem sum_pair (k : CK) (d : Fin 6) (c : Dev nD) (n : ℕ) :
    ∑ e : Dev nD, (tallyAt (kcell (pt e d, k)) () n : CellTallies nD τ sig Unit) (kcell (c, k)) () = n := by
  rw [Finset.sum_eq_single (pt c d)]
  · rw [pt_pt, tallyAt_apply, if_pos ⟨rfl, rfl⟩]
  · intro e _ he
    rw [tallyAt_apply, if_neg]
    rintro ⟨h, -⟩
    have := congrArg Prod.fst (kcell_inj h)
    exact he (by rw [show c = pt e d from this, pt_pt])
  · intro h; exact absurd (Finset.mem_univ _) h

/-- A cell is owed nothing for a cell of another kind. -/
theorem tally_other {k k' : CK} (h : k ≠ k') (c c' : Dev nD) (n : ℕ) :
    (tallyAt (kcell (c', k')) () n : CellTallies nD τ sig Unit) (kcell (c, k)) () = 0 := by
  rw [tallyAt_apply, if_neg]
  rintro ⟨h', -⟩
  exact h (congrArg Prod.snd (kcell_inj h'))

/-- What all devices owe a receive cell for the copies of a list: a block's credit for each time its slot occurs. -/
theorem sum_owedS (c : Dev nD) (s : Slot) : ∀ l : List Slot, ∑ e : Dev nD, owedS e l (rcvC c s) () = l.count s * N
  | [] => by
    rw [List.count_nil, Nat.zero_mul]
    exact Finset.sum_eq_zero fun e _ => rfl
  | s' :: l => by
    have h (e : Dev nD) : owedS e (s' :: l) (rcvC c s) () = owedS e l (rcvC c s) ()
        + (tallyAt (kcell (pt e (mi s'), .inr (.inr s'))) () N : CellTallies nD τ sig Unit) (kcell (c, .inr (.inr s))) () := rfl
    rw [Finset.sum_congr rfl fun e _ => h e, Finset.sum_add_distrib, sum_owedS c s l]
    by_cases hs : s' = s
    · subst hs
      rw [List.count_cons_self, Nat.add_mul, Nat.one_mul, sum_pair]
    · have hk : (.inr (.inr s) : CK) ≠ .inr (.inr s') := fun h => hs (Sum.inr.inj (Sum.inr.inj h)).symm
      rw [List.count_cons_of_ne hs, Finset.sum_congr rfl fun e _ => tally_other hk c (pt e (mi s')) N, Finset.sum_const_zero, Nat.add_zero]

/-- Signals owe a receive cell nothing. -/
theorem sum_owedB_rcv (c : Dev nD) (s : Slot) (l : List Slot) : ∀ ds : List (Fin 6),
    ∑ e : Dev nD, owedB e l ds (rcvC c s) () = l.count s * N
  | [] => sum_owedS c s l
  | d :: ds => by
    have h (e : Dev nD) : owedB e l (d :: ds) (rcvC c s) () = owedB e l ds (rcvC c s) ()
        + (tallyAt (kcell (pt e d, .inl ())) () 1 : CellTallies nD τ sig Unit) (kcell (c, .inr (.inr s))) () := rfl
    have hk : (.inr (.inr s) : CK) ≠ .inl () := fun h => by cases h
    rw [Finset.sum_congr rfl fun e _ => h e, Finset.sum_add_distrib, sum_owedB_rcv c s l ds,
      Finset.sum_congr rfl fun e _ => tally_other hk c (pt e d) 1, Finset.sum_const_zero, Nat.add_zero]

/-- Copies owe a barrier cell nothing. -/
theorem owedS_bar (c e : Dev nD) : ∀ l : List Slot, owedS e l (barC c) () = 0
  | [] => rfl
  | s :: l => by
    have h : owedS e (s :: l) (barC c) () = owedS e l (barC c) () + (tallyAt (rcvC (pt e (mi s)) s) () N : CellTallies nD τ sig Unit) (barC c) () := rfl
    rw [h, owedS_bar c e l, Nat.zero_add]
    exact tally_other (k := .inl ()) (k' := .inr (.inr s)) (fun h => by cases h) c (pt e (mi s)) N

/-- What all devices owe a barrier cell: one for each signal. -/
theorem sum_owedB_bar (c : Dev nD) (l : List Slot) : ∀ ds : List (Fin 6), ∑ e : Dev nD, owedB e l ds (barC c) () = ds.length
  | [] => Finset.sum_eq_zero fun e _ => owedS_bar c e l
  | d :: ds => by
    have h (e : Dev nD) : owedB e l (d :: ds) (barC c) () = owedB e l ds (barC c) ()
        + (tallyAt (kcell (pt e d, .inl ())) () 1 : CellTallies nD τ sig Unit) (kcell (c, .inl ())) () := rfl
    rw [Finset.sum_congr rfl fun e _ => h e, Finset.sum_add_distrib, sum_owedB_bar c l ds, List.length_cons, sum_pair]

/-- Every slot is sent once. -/
theorem sOrd_count : ∀ s : Slot, sOrd.count s = 1 := by decide

/-- A barrier cell's launch credit. -/
theorem launch_bar (c : Dev nD) :
    tallyOn (barC c) (launchCredit (Pipeline.owing O₀) 0 (barC c)) = (tallyAt (barC c) () 6 : CellTallies nD τ sig Unit) := by
  unfold tallyAt; refine congrArg _ (Finsupp.ext fun u => ?_); cases u
  rw [Pipeline.launchCredit_owing, Finsupp.single_eq_same]
  exact sum_owedB_bar c sOrd [0, 1, 2, 3, 4, 5]

/-- A receive cell's launch credit. -/
theorem launch_rcv (c : Dev nD) (s : Slot) :
    tallyOn (rcvC c s) (launchCredit (Pipeline.owing O₀) 0 (rcvC c s)) = (tallyAt (rcvC c s) () N : CellTallies nD τ sig Unit) := by
  unfold tallyAt; refine congrArg _ (Finsupp.ext fun u => ?_); cases u
  rw [Pipeline.launchCredit_owing, Finsupp.single_eq_same]
  exact (sum_owedB_rcv c s sOrd [0, 1, 2, 3, 4, 5]).trans (by rw [sOrd_count, Nat.one_mul])

/-- The receive semaphores' places are different. -/
theorem rcv_inj : Function.Injective fun s : Slot => csem (.inr (.inr s)) := fun s s' h => Sum.inr.inj (Sum.inr.inj (csem_inj h))

/-- A device's launch credit: its barrier's and its receive cells'. -/
theorem creds (c : Dev nD) : (Pipeline.launchCred O₀ c : sProp 𝕄) ⊢ credit c := by
  unfold Pipeline.launchCred credit
  rw [bigSep_univ_at _ (SemLoc.reg barS), launch_bar]
  refine sep_mono_right ?_
  rw [← bigSep_congr (s := Finset.univ) fun s _ => congrArg cred (launch_rcv c s)]
  have h : (Finset.univ : Finset Slot).map ⟨fun s => csem (.inr (.inr s)), rcv_inj⟩ ⊆ Finset.univ.erase (SemLoc.reg barS) := by
    intro x hx
    obtain ⟨s, -, rfl⟩ := Finset.mem_map.mp hx
    exact Finset.mem_erase.mpr ⟨(by intro h; cases h), Finset.mem_univ _⟩
  refine (BI.bigSep_subset h).trans ?_
  exact Entails.of_eq (bigSep_map (M := 𝕄) _)

/-! ## The region's side conditions -/

/-- What a device starts from, of what the launch gives. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hr (K : Dev nD × CK → ℕ) : recs (AV m) K = iprop(levAts L lv ∗ recs' m K) := rfl
  unfold G' start
  iintro ⟨-, Hlev, Hcr, -, ⟨%K, Hr, Hl⟩⟩
  ihave Hc := (creds (F := F) c) $$ Hcr
  imodintro
  isplitl
  · isplitr [Hc]
    · iexists K
      rw [hr]
      isplitr [Hl]
      · isplitl [Hlev]
        · iexact Hlev
        · iexact Hr
      · iexact Hl
    · iexact Hc
  · iempintro

/-- What the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What the body ends with. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scratch
  rw [bigSep_sep']
  iintro ⟨Hr, HzB, HzS, HzV⟩
  isplitl [HzB]; · iexact HzB
  isplitl [HzS HzV]
  · isplitl [HzS] <;> iassumption
  iexact Hr

/-- The staging copies may be awaited throughout. -/
theorem waits (c : Dev nD) : (levAts L lv : sProp 𝕄) ⊢ Pipeline.cellsWaits cfgs (dats m) () 0 c :=
  Pipeline.cellsWaits_intro cfgs (dats m) () 0 c fun w s t =>
    mayWait_above c _ 0 (by rw [kindOf_none fun k => csem_stage k w s]; exact Nat.le_refl 0) (by
      rcases t with ⟨_ | _, ht⟩
      · exact above_owedB c
      · exact above_zero 0)

/-! ## The run -/

/-- A window's array after the run. -/
def finalA (c : Dev nD) (w : Fin cfg0.W) : Buf (Elt F) ((cfg0.win w).arr.view.loc (c : Thread nD τ)) := (dats m 0 c).arrAt w cfg0.N

/-- The windows' arrays end as computed. -/
def QC : PUnit × MemSt nD τ sig (Elt F) → Prop := fun r =>
  ∀ c : Dev nD, ∀ w : Fin cfg0.W, r.2.mem ((cfg0.win w).arr.view.loc (c : Thread nD τ)) = finalA m c w

set_option maxRecDepth 20000 in
/-- On sixteen devices, for any float values and from any memory with semaphores at zero: every fair execution of the main
    function ends, with each device's arrays as computed and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/-
The runs as the certificate states them: the kernel at either float instance and the reference end, their arguments
unchanged and every semaphore at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import Idealize.ShloMosaic.Lib.Pipeline.ValueKit.Geometry

@[expose] public section

noncomputable section

namespace Cert.Moe

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The result array ends holding the result. -/
theorem final_out (c : Dev nD) : finalA m c (4 : Fin 5) = outB m c := by
  funext i
  exact (dats (F := F) m 0 c).arrAt_emb_eq_after_last (4 : Fin 5) t0_0 (by decide +kernel) i

/-- The kernel's run: on every device the result is the exchange's and the arguments are unchanged, and every semaphore
    ends at zero. -/
theorem run_vals : θ_run defs (onTc (τ := τ) (main (F := F))) ⟨m, fun _ => 0, ρ⟩ (fun r => (∀ c : Dev nD,
      r.2.mem ((c.tc : Thread nD τ).loc main_v1) = outB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c 4).trans (final_out m c),
      (h.1 c 0).trans ((dats (F := F) m 0 c).arrAt_in (0 : Fin 5) rfl _),
      (h.1 c 1).trans ((dats (F := F) m 0 c).arrAt_in (1 : Fin 5) rfl _),
      (h.1 c 2).trans ((dats (F := F) m 0 c).arrAt_in (2 : Fin 5) rfl _),
      (h.1 c 3).trans ((dats (F := F) m 0 c).arrAt_in (3 : Fin 5) rfl _)⟩, h.2⟩) (run_main m ρ)

/-- The kernel's run as a frame states it. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_vals m ρ)

end Cert.Moe

namespace Cert

open Idealize.ShloMosaic Idealize.SL.Sem

/-- The two prints of the kernel have the same bodies by label. -/
theorem bodies_eq {F : FTy → Type} [FloatOps F] : Kernel.defs₀ (F := F) = KernelIdeal.defs₀ (F := F) := by
  unfold Kernel.defs₀ KernelIdeal.defs₀
  refine congrArg Defs.onTc ?_
  funext l a
  match l, a with
  | 0, (t, s) => rfl
  | ⟨_ + 1, h⟩, _ => exact absurd h (Nat.not_lt.2 (Nat.le_add_left _ _))

/-- The two prints of the kernel have the same definitions. -/
theorem defs_eq {F : FTy → Type} [FloatOps F] : Kernel.defs (F := F) = KernelIdeal.defs (F := F) :=
  congrArg (Pipeline.defs (KernelIdeal.pcfgs (F := F))) bodies_eq

/-- The kernel runs at its own floats. -/
theorem frame_kernel : Cert.quiescent_Kernel := by
  intro m ρ _
  rw [defs_eq]
  exact Cert.Moe.run_frame (F := Bits) m ρ

/-- The kernel runs at exact floats. -/
theorem frame_ideal : Cert.quiescent_KernelIdeal := fun m ρ _ =>
  Cert.Moe.run_frame (F := Ideal) m ρ

/-- The reference runs. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert

end
-- ==== Proof.Gates.lean ====
/-
The kernel's gates and gated products over exact numbers, entry by entry.
-/
module

public import proofs.«01_k».proof.Proof.Struct
public import Idealize.ShloMosaic.Lib.Pointwise

@[expose] public section

noncomputable section

namespace Cert.Moe

open Cert.KernelIdeal Cert.KernelIdeal.Gen
open Idealize.ShloMosaic

/-- A comparison of two experts' numbers, as a number. -/
theorem flag_eq (a b : Fin 32) :
    (FloatOps.sitofp FTy.f32 (BitVec.setWidth 32 (IntOp.cmpi CmpIPredicate.eq (BitVec.ofNat 32 a.val) (BitVec.ofNat 32 b.val))) : Ideal .f32)
      = if a = b then 1 else 0 := by
  have key : ∀ a b : Fin 32, (BitVec.setWidth 32 (IntOp.cmpi CmpIPredicate.eq (BitVec.ofNat 32 a.val) (BitVec.ofNat 32 b.val)))
      = if a = b then 1#32 else 0#32 := by decide +kernel
  rw [key]
  split
  · show (((1#32 : BitVec 32).toInt : ℝ) : EReal) = 1
    norm_num
  · show (((0#32 : BitVec 32).toInt : ℝ) : EReal) = 0
    norm_num

/-- A row's sum against the comparison with an expert's number is the row's entry at the expert. -/
theorem pick (P : FVec Ideal S256x32 .f32) (r : Fin 256) (e : Fin 32) (b : BitVec 32) (hb : b = BitVec.ofNat 32 e.val) :
    (∑ k : Fin 32, P (ix2 r k) * FloatOps.sitofp FTy.f32 (BitVec.setWidth 32 (IntOp.cmpi CmpIPredicate.eq (BitVec.ofNat 32 k.val) b)))
      = P (ix2 r e) := by
  subst hb
  simp only [flag_eq, mul_ite, mul_one, mul_zero]
  simp

/-- The two chosen experts' probabilities, added. -/
theorem pay6_apply (x : FVec Ideal S256x128 .f32) (rw : FVec Ideal S128x32 .f32) (i0 i1 : Vec Ideal S256x1 .i32) (r : Fin 256)
    (e0 e1 : Fin 32) (h0 : i0 (ix2 r 0) = BitVec.ofNat 32 e0.val) (h1 : i1 (ix2 r 0) = BitVec.ofNat 32 e1.val) :
    k0_pay6 (F := Ideal) (k0_pay2 x) rw i0 i1 (ix2 r 0)
      = k0_pay3 (F := Ideal) (k0_pay2 x) rw (ix2 r e0) + k0_pay3 (F := Ideal) (k0_pay2 x) rw (ix2 r e1) := by
  generalize hP : k0_pay3 (F := Ideal) (k0_pay2 x) rw = P
  unfold k0_pay6
  rw [hP]
  pointwise [k0_pay4, k0_pay5]
  rw [pick P r e0 _ h0, pick P r e1 _ h1]

/-- An expert's gate for a token: its share of the two chosen experts' probabilities if it is chosen, else nothing. -/
def gate (P : FVec Ideal S256x32 .f32) (r : Fin 256) (e0 e1 e : Fin 32) : EReal :=
  if e0 = e ∨ e1 = e then Ideal.div (P (ix2 r e)) (P (ix2 r e0) + P (ix2 r e1)) else 0

/-- A selection by whether either chosen expert is this one. -/
theorem sel_eq (e0 e1 e : Fin 32) (a b : EReal) :
    Scalar.select (IntOp.ori (IntOp.cmpi CmpIPredicate.eq (BitVec.ofNat 32 e0.val) (BitVec.ofNat 32 e.val))
        (IntOp.cmpi CmpIPredicate.eq (BitVec.ofNat 32 e1.val) (BitVec.ofNat 32 e.val))) a b = if e0 = e ∨ e1 = e then a else b := by
  have key : ∀ e0 e1 e : Fin 32, (IntOp.ori (IntOp.cmpi CmpIPredicate.eq (BitVec.ofNat 32 e0.val) (BitVec.ofNat 32 e.val))
        (IntOp.cmpi CmpIPredicate.eq (BitVec.ofNat 32 e1.val) (BitVec.ofNat 32 e.val))) = if e0 = e ∨ e1 = e then 1#1 else 0#1 := by
    decide +kernel
  rw [key]
  split <;> rfl

/-- The first expert's gate. -/
theorem gate0_apply (w : BitVec 32) (x : FVec Ideal S256x128 .f32) (rw : FVec Ideal S128x32 .f32) (i0 i1 : Vec Ideal S256x1 .i32) (r : Fin 256)
    (e0 e1 e : Fin 32) (h0 : i0 (ix2 r 0) = BitVec.ofNat 32 e0.val) (h1 : i1 (ix2 r 0) = BitVec.ofNat 32 e1.val)
    (he : Scalar.addi (Scalar.muli w 2#32) 0#32 = BitVec.ofNat 32 e.val) :
    gate0 (F := Ideal) w x rw i0 i1 (ix2 r 0) = gate (k0_pay3 (F := Ideal) (k0_pay2 x) rw) r e0 e1 e := by
  have hS := pay6_apply x rw i0 i1 r e0 e1 h0 h1
  revert hS
  unfold gate0 k0_pay8
  generalize hP : k0_pay3 (F := Ideal) (k0_pay2 x) rw = P
  generalize hG : k0_pay6 (F := Ideal) (k0_pay2 x) rw i0 i1 = G
  intro hS
  pointwise [k0_pay4, k0_pay5, k0_pay7, k0_pay9]
  rw [he, pick P r e _ rfl, h0, h1, sel_eq, hS]
  rfl

/-- The second expert's gate. -/
theorem gate1_apply (w : BitVec 32) (x : FVec Ideal S256x128 .f32) (rw : FVec Ideal S128x32 .f32) (i0 i1 : Vec Ideal S256x1 .i32) (r : Fin 256)
    (e0 e1 e : Fin 32) (h0 : i0 (ix2 r 0) = BitVec.ofNat 32 e0.val) (h1 : i1 (ix2 r 0) = BitVec.ofNat 32 e1.val)
    (he : Scalar.addi (Scalar.muli w 2#32) 1#32 = BitVec.ofNat 32 e.val) :
    gate1 (F := Ideal) w x rw i0 i1 (ix2 r 0) = gate (k0_pay3 (F := Ideal) (k0_pay2 x) rw) r e0 e1 e := by
  have hS := pay6_apply x rw i0 i1 r e0 e1 h0 h1
  revert hS
  unfold gate1
  generalize hP : k0_pay3 (F := Ideal) (k0_pay2 x) rw = P
  generalize hG : k0_pay6 (F := Ideal) (k0_pay2 x) rw i0 i1 = G
  intro hS
  pointwise [k0_pay4, k0_pay5, k0_pay10]
  rw [he, pick P r e _ rfl, h0, h1, sel_eq, hS]
  rfl

/-- A row of a chunk in the whole. -/
def rowOf (g h : Fin 2) (i : Fin 64) : Fin 256 := ⟨(g.val * 2 + h.val) * 64 + i.val, by omega⟩

/-- A gated product's entry: the row's gate times the row's product with the expert's weights. -/
theorem term_apply (g h : Fin 2) (x : FVec Ideal S256x128 .f32) (ga : FVec Ideal S256x1 .f32) (w : Vec Ideal S1x128x256 .f32)
    (i : Fin 64) (f : Fin 256) :
    term g h (k0_pay2 x) ga w (ix2 i f) = ga (ix2 (rowOf g h i) 0) * ∑ k : Fin 128, x (ix2 (rowOf g h i) k) * w (ix3 0 k f) := by
  pointwise [term, k0_pay2]
  rfl

end Cert.Moe

end
-- ==== Proof.Total.lean ====
/-
The exchange over exact numbers: after both phases every device holds the sum over all devices.
-/
module

public import proofs.«01_k».proof.Proof.Proto
public import Idealize.ShloMosaic.Lib.ValueIdx

@[expose] public section

noncomputable section

namespace Cert.Moe

open Cert.KernelIdeal Cert.KernelIdeal.Gen
open Idealize.ShloMosaic

/-- The mask of a place in a plane or a line: 0 is the device itself. -/
def pl (p : Fin 2) : Fin 4 → Nat := if p = 0 then ![0, 1, 3, 2] else ![0, 4, 8, 12]

/-- A device at a place in its plane and a place in its line. -/
def at2 (c : Dev nD) (p q : Fin 2) (k l : Fin 4) : Dev nD := ⟨(c.val ^^^ pl q l ^^^ pl p k) % 16, Nat.mod_lt _ (by decide)⟩

/-- The places of a plane and a line name every device once. -/
theorem at2_bij : ∀ (c : Dev nD) (g : Fin 2), Function.Bijective fun kl : Fin 4 × Fin 4 => at2 c g (1 - g) kl.1 kl.2 := by
  decide +kernel

/-- One phase over exact numbers adds the partners' numbers. -/
theorem stepV_apply (V : Dev nD → FVec Ideal S64x256 .f32) (g p h : Fin 2) (c : Dev nD) (i : S64x256.Idx) :
    stepV V g p h c i = V c i + V (pt c (mi ((g, p, h), 0))) i + V (pt c (mi ((g, p, h), 1))) i + V (pt c (mi ((g, p, h), 2))) i := rfl

/-- The sixteen devices a device's result is added up from, phase by phase, are the places of its plane and line. -/
theorem places : ∀ (c : Dev nD) (g h : Fin 2) (k l : Fin 4),
    at2 c g (1 - g) k l =
      let c' := if hl : l = 0 then c else pt c (mi ((g, 1, h), l.pred hl))
      if hk : k = 0 then c' else pt c' (mi ((g, 0, h), k.pred hk)) := by
  decide +kernel

/-- The exchange's result is the sum over the devices. -/
theorem finV_apply (A : Dev nD → Fin 2 → Fin 2 → FVec Ideal S64x256 .f32) (g h : Fin 2) (c : Dev nD) (i : S64x256.Idx) :
    finV A g h c i = ∑ d : Dev nD, A d g h i := by
  have hs : (∑ d : Dev nD, A d g h i) = ∑ l : Fin 4, ∑ k : Fin 4, A (at2 c g (1 - g) k l) g h i := by
    rw [← Fintype.sum_prod_type_right']
    exact ((at2_bij c g).sum_comp fun d => (A d g h i : EReal)).symm
  rw [hs]
  simp only [places c g h, Fin.sum_univ_four]
  rw [finV, stepV_apply]
  simp only [midV, stepV_apply]
  simp [← add_assoc]

end Cert.Moe

end
-- ==== Proof.Value.lean ====
/-
The kernel's result over exact numbers, in the arguments' entries.
-/
module

public import proofs.«01_k».proof.Proof.Body
public import proofs.«01_k».proof.Proof.Gates
public import proofs.«01_k».proof.Proof.Total

@[expose] public section

noncomputable section

namespace Cert.Moe

open Cert.KernelIdeal Cert.KernelIdeal.Gen
open Idealize.ShloMosaic
open Idealize.ShloMosaic.TcCoe

/-- A device's expert. -/
def expert (c : Dev nD) (j : Fin 2) : Fin 32 := ⟨c.val * 2 + j.val, by have : c.val < 16 := c.isLt; omega⟩

/-- The number the device computes for its first expert. -/
theorem expert0_word : ∀ c : Dev nD, Scalar.addi (Scalar.muli (word c) 2#32) 0#32 = BitVec.ofNat 32 (expert c 0).val := by
  decide +kernel

/-- The number the device computes for its second expert. -/
theorem expert1_word : ∀ c : Dev nD, Scalar.addi (Scalar.muli (word c) 2#32) 1#32 = BitVec.ofNat 32 (expert c 1).val := by
  decide +kernel

variable (m : (ℓ : Loc nD τ sig) → Buf (Elt Ideal) ℓ)

/-- The tokens are staged whole. -/
theorem xb_eq (c : Dev nD) : xb m c = m ((c.tc : Thread nD τ).loc main_arg0) := by
  have hz : ∀ a, (win0 0).index t0_0 a = 0 := by decide +kernel
  funext i
  refine congrArg (m ((c.tc : Thread nD τ).loc main_arg0)) ?_
  funext a
  exact Fin.ext (Pipeline.Window.rect_emb_val_of_index_zero (win0 0) t0_0 a (hz a) i)

/-- The router's weights are staged whole. -/
theorem rb_eq (c : Dev nD) : rb m c = m ((c.tc : Thread nD τ).loc main_arg1) := by
  have hz : ∀ a, (win0 1).index t0_0 a = 0 := by decide +kernel
  funext i
  refine congrArg (m ((c.tc : Thread nD τ).loc main_arg1)) ?_
  funext a
  exact Fin.ext (Pipeline.Window.rect_emb_val_of_index_zero (win0 1) t0_0 a (hz a) i)

/-- The routing indices are staged whole. -/
theorem ib_eq (c : Dev nD) : ib m c = m ((c.tc : Thread nD τ).loc main_arg2) := by
  have hz : ∀ a, (win0 2).index t0_0 a = 0 := by decide +kernel
  funext i
  refine congrArg (m ((c.tc : Thread nD τ).loc main_arg2)) ?_
  funext a
  exact Fin.ext (Pipeline.Window.rect_emb_val_of_index_zero (win0 2) t0_0 a (hz a) i)

/-- The experts' weights are staged whole. -/
theorem eb_eq (c : Dev nD) : eb m c = m ((c.tc : Thread nD τ).loc main_arg3) := by
  have hz : ∀ a, (win0 3).index t0_0 a = 0 := by decide +kernel
  funext i
  refine congrArg (m ((c.tc : Thread nD τ).loc main_arg3)) ?_
  funext a
  exact Fin.ext (Pipeline.Window.rect_emb_val_of_index_zero (win0 3) t0_0 a (hz a) i)

/-- The first column's entries. -/
theorem i0b_apply (c : Dev nD) (r : Fin 256) : i0b m c (ix2 r 0) = (m ((c.tc : Thread nD τ).loc main_arg2) : IVec S256x2 32) (ix2 r 0) := by
  unfold i0b
  rw [ib_eq]
  refine congrArg (m ((c.tc : Thread nD τ).loc main_arg2) : IVec S256x2 32) ?_
  funext a
  refine Fin.ext ?_
  match a with
  | ⟨0, _⟩ => show 0 + 1 * r.val = r.val; omega
  | ⟨1, _⟩ => rfl

/-- The second column's entries. -/
theorem i1b_apply (c : Dev nD) (r : Fin 256) : i1b m c (ix2 r 0) = (m ((c.tc : Thread nD τ).loc main_arg2) : IVec S256x2 32) (ix2 r 1) := by
  unfold i1b
  rw [ib_eq]
  refine congrArg (m ((c.tc : Thread nD τ).loc main_arg2) : IVec S256x2 32) ?_
  funext a
  refine Fin.ext ?_
  match a with
  | ⟨0, _⟩ => show 0 + 1 * r.val = r.val; omega
  | ⟨1, _⟩ => rfl

/-- An expert's weights' entries. -/
theorem wAt_apply (c : Dev nD) (j : Fin 2) (k : Fin 128) (f : Fin 256) :
    wAt c j (eb m c) (ix3 0 k f) = (m ((c.tc : Thread nD τ).loc main_arg3) : FVec Ideal S2x128x256 .f32) (ix3 j k f) := by
  rw [eb_eq]
  match j with
  | 0 =>
    refine congrArg (m ((c.tc : Thread nD τ).loc main_arg3) : FVec Ideal S2x128x256 .f32) ?_
    funext a
    refine Fin.ext ?_
    match a with
    | ⟨0, _⟩ => rfl
    | ⟨1, _⟩ => show 0 + 1 * k.val = k.val; omega
    | ⟨2, _⟩ => show 0 + 1 * f.val = f.val; omega
  | 1 =>
    refine congrArg (m ((c.tc : Thread nD τ).loc main_arg3) : FVec Ideal S2x128x256 .f32) ?_
    funext a
    refine Fin.ext ?_
    match a with
    | ⟨0, _⟩ => rfl
    | ⟨1, _⟩ => show 0 + 1 * k.val = k.val; omega
    | ⟨2, _⟩ => show 0 + 1 * f.val = f.val; omega

/-- A row's place in its chunk, back in the whole. -/
theorem rowOf_in (r : Fin 256) : rowOf (rowG r) (rowH r) (rowIn r) = r := by
  refine Fin.ext ?_
  show (r.val / 128 * 2 + r.val / 64 % 2) * 64 + r.val % 64 = r.val
  omega

/-- A token's product with an expert's weights. -/
def prod (x : FVec Ideal S256x128 .f32) (w : Fin 128 → Fin 256 → EReal) (r f : Fin 256) : EReal := ∑ k : Fin 128, x (ix2 r k) * w k f

/-- A device's own result's entries, where the routing indices of the row are experts `e0`, `e1`. -/
theorem AV_apply (c : Dev nD) (x : FVec Ideal S256x128 .f32) (rw : FVec Ideal S128x32 .f32) (e0 e1 : Fin 32) (r f : Fin 256)
    (hx : m ((c.tc : Thread nD τ).loc main_arg0) = x) (hrw : m ((c.tc : Thread nD τ).loc main_arg1) = rw)
    (h0 : (m ((c.tc : Thread nD τ).loc main_arg2) : IVec S256x2 32) (ix2 r 0) = BitVec.ofNat 32 e0.val)
    (h1 : (m ((c.tc : Thread nD τ).loc main_arg2) : IVec S256x2 32) (ix2 r 1) = BitVec.ofNat 32 e1.val) :
    AV m c (rowG r) (rowH r) (ix2 (rowIn r) f) = ∑ j : Fin 2, gate (k0_pay3 (F := Ideal) (k0_pay2 x) rw) r e0 e1 (expert c j)
      * prod x (fun k f => (m ((c.tc : Thread nD τ).loc main_arg3) : FVec Ideal S2x128x256 .f32) (ix3 j k f)) r f := by
  rw [Fin.sum_univ_two]
  unfold AV
  show term _ _ _ _ _ (ix2 (rowIn r) f) + term _ _ _ _ _ (ix2 (rowIn r) f) = _
  rw [term_apply, term_apply, rowOf_in,
    gate0_apply _ _ _ _ _ r e0 e1 (expert c 0) ((i0b_apply m c r).trans h0) ((i1b_apply m c r).trans h1) (expert0_word c),
    gate1_apply _ _ _ _ _ r e0 e1 (expert c 1) ((i0b_apply m c r).trans h0) ((i1b_apply m c r).trans h1) (expert1_word c),
    xb_eq, rb_eq, hx, hrw]
  simp only [wAt_apply]
  rfl

/-- The sum over devices and their experts is the sum over experts. -/
theorem sum_experts (f : Fin 32 → EReal) : (∑ c : Dev nD, ∑ j : Fin 2, f (expert c j)) = ∑ e : Fin 32, f e := by
  have hb : Function.Bijective fun cj : Dev nD × Fin 2 => expert cj.1 cj.2 := by decide +kernel
  rw [← Fintype.sum_prod_type']
  exact hb.sum_comp f

/-- The gated sum over experts is the two chosen experts' share. -/
theorem sum_gate (P : FVec Ideal S256x32 .f32) (r : Fin 256) (e0 e1 : Fin 32) (hne : e0 ≠ e1) (D : Fin 32 → EReal) :
    (∑ e : Fin 32, gate P r e0 e1 e * D e)
      = Ideal.div (P (ix2 r e0)) (P (ix2 r e0) + P (ix2 r e1)) * D e0 + Ideal.div (P (ix2 r e1)) (P (ix2 r e0) + P (ix2 r e1)) * D e1 := by
  rw [← Finset.sum_subset (Finset.subset_univ {e0, e1}) (fun e _ he => ?_), Finset.sum_pair hne]
  · simp only [gate, true_or, or_true, if_true]
  · have hn : ¬(e0 = e ∨ e1 = e) := fun h => he (by rcases h with rfl | rfl <;> simp)
    rw [gate, if_neg hn, zero_mul]

/-- The kernel's result's entries. -/
theorem outB_apply (c : Dev nD) (x : FVec Ideal S256x128 .f32) (rw : FVec Ideal S128x32 .f32) (ix : IVec S256x2 32) (W : Fin 32 → Fin 128 → Fin 256 → EReal)
    (e0 e1 : Fin 32) (r f : Fin 256) (hne : e0 ≠ e1)
    (hx : ∀ d : Dev nD, m ((d.tc : Thread nD τ).loc main_arg0) = x) (hrw : ∀ d : Dev nD, m ((d.tc : Thread nD τ).loc main_arg1) = rw)
    (hix : ∀ d : Dev nD, m ((d.tc : Thread nD τ).loc main_arg2) = ix)
    (hW : ∀ (d : Dev nD) j k f, (m ((d.tc : Thread nD τ).loc main_arg3) : FVec Ideal S2x128x256 .f32) (ix3 j k f) = W (expert d j) k f)
    (h0 : ix (ix2 r 0) = BitVec.ofNat 32 e0.val) (h1 : ix (ix2 r 1) = BitVec.ofNat 32 e1.val) (P : FVec Ideal S256x32 .f32)
    (hP : k0_pay3 (F := Ideal) (k0_pay2 x) rw = P) :
    outB m c (ix2 r f)
      = Ideal.div (P (ix2 r e0)) (P (ix2 r e0) + P (ix2 r e1)) * prod x (W e0) r f
        + Ideal.div (P (ix2 r e1)) (P (ix2 r e0) + P (ix2 r e1)) * prod x (W e1) r f := by
  show finV (AV m) (rowG r) (rowH r) c (ValueIdx.ix2 (rowIn r) f) = _
  rw [finV_apply, ← ix2_eq_valueIdx]
  have key : ∀ d : Dev nD, AV m d (rowG r) (rowH r) (ix2 (rowIn r) f) = ∑ j : Fin 2, gate P r e0 e1 (expert d j) * prod x (W (expert d j)) r f := fun d => by
    rw [AV_apply m d x rw e0 e1 r f (hx d) (hrw d) (by rw [hix d]; exact h0) (by rw [hix d]; exact h1), hP]
    simp only [hW]
  simp only [key]
  rw [sum_experts fun e => gate P r e0 e1 e * prod x (W e) r f]
  exact sum_gate P r e0 e1 hne fun e => prod x (W e) r f

end Cert.Moe

end
-- ==== Proof.Plain.lean ====
/-
The reference over exact numbers, entry by entry.
-/
module

public import proofs.«01_k».proof.Proof.Gen.ReferenceIdeal.Run
public import proofs.«01_k».proof.Proof.Gen.ReferenceIdeal
public import Idealize.ShloMosaic.Lib.Pointwise

@[expose] public section

noncomputable section

namespace Cert.Moe

open Cert.ReferenceIdeal Facts₀
open Idealize.ShloMosaic

/-- The reference's probabilities. -/
def probs (x : FVec Ideal S256x128 .f32) (rw : FVec Ideal S128x32 .f32) : FVec Ideal S256x32 .f32 :=
  Host.divf (Host.exp (subf (Host.dotGeneral dot_S256x128_S128x32_S256x32_1_0_0_1_n_n none x rw) (broadcastInDim S256x32 ![0, 1] bcast_S256x1_S256x32_0_1 (broadcastInDim S256x1 ![0] bcast_S256_S256x1_0 (Host.reduce FloatOps.maximumf (Host.dotGeneral dot_S256x128_S128x32_S256x32_1_0_0_1_n_n none x rw) (constant S_ .f32 0xFF800000#32) reducesTo_S256x32_S256_d1 h_S_))))) (broadcastInDim S256x32 ![0, 1] bcast_S256x1_S256x32_0_1 (broadcastInDim S256x1 ![0] bcast_S256_S256x1_0 (Host.reduceAdd (Host.exp (subf (Host.dotGeneral dot_S256x128_S128x32_S256x32_1_0_0_1_n_n none x rw) (broadcastInDim S256x32 ![0, 1] bcast_S256x1_S256x32_0_1 (broadcastInDim S256x1 ![0] bcast_S256_S256x1_0 (Host.reduce FloatOps.maximumf (Host.dotGeneral dot_S256x128_S128x32_S256x32_1_0_0_1_n_n none x rw) (constant S_ .f32 0xFF800000#32) reducesTo_S256x32_S256_d1 h_S_))))) (constant S_ .f32 0x00000000#32) reducesTo_S256x32_S256_d1 h_S_)))

/-- The two chosen experts' probabilities. -/
def chosen (P : FVec Ideal S256x32 .f32) (ix : IVec S256x2 32) : FVec Ideal S256x2 .f32 :=
  Host.gather gather_S256x32_S256x2x1_S256x2_n_1_0_0_1_2_11 P (shapeCast _ (select (cmpi .slt ix (broadcastInDim S256x2 ![] bcast_S_S256x2 (constantI S_ 32 0#32))) (addi ix (broadcastInDim S256x2 ![] bcast_S_S256x2 (constantI S_ 32 32#32))) ix) shapeCasts_S256x2_S256x2x1)

/-- The weights each token's expert in a column has. -/
def taken (W : FVec Ideal S32x128x256 .f32) (ix : IVec S256x1 32) : FVec Ideal S256x128x256 .f32 :=
  Host.gather gather_S32x128x256_S256x1_S256x128x256_12_0_n_n_0_1_1128256 W (broadcastInDim S256x1 ![0] bcast_S256_S256x1_0 (shapeCast S256 ix shapeCasts_S256x1_S256))

/-- The reference's result in these words. -/
def plain (x : FVec Ideal S256x128 .f32) (rw : FVec Ideal S128x32 .f32) (ix : IVec S256x2 32) (W : FVec Ideal S32x128x256 .f32) : FVec Ideal S256x256 .f32 :=
  addf (mulf (broadcastInDim S256x256 ![0, 1] bcast_S256x1_S256x256_0_1 (Host.divf (extractStridedSlice S256x1 ![0, 0] (chosen (probs x rw) ix) slices_S256x2_S256x1_0_0)
      (addf (extractStridedSlice S256x1 ![0, 0] (chosen (probs x rw) ix) slices_S256x2_S256x1_0_0) (extractStridedSlice S256x1 ![0, 1] (chosen (probs x rw) ix) slices_S256x2_S256x1_0_1))))
      (Host.dotGeneral dot_S256x128_S256x128x256_S256x256_1_1_n_2_0_0 none x (taken W (extractStridedSlice S256x1 ![0, 0] ix slices_S256x2_S256x1_0_0))))
    (mulf (broadcastInDim S256x256 ![0, 1] bcast_S256x1_S256x256_0_1 (Host.divf (extractStridedSlice S256x1 ![0, 1] (chosen (probs x rw) ix) slices_S256x2_S256x1_0_1)
      (addf (extractStridedSlice S256x1 ![0, 0] (chosen (probs x rw) ix) slices_S256x2_S256x1_0_0) (extractStridedSlice S256x1 ![0, 1] (chosen (probs x rw) ix) slices_S256x2_S256x1_0_1))))
      (Host.dotGeneral dot_S256x128_S256x128x256_S256x256_1_1_n_2_0_0 none x (taken W (extractStridedSlice S256x1 ![0, 1] ix slices_S256x2_S256x1_0_1))))

/-- The reference's result, read off the run. -/
theorem res_eq (m : (ℓ : Loc nD τ sig) → Buf (Elt Ideal) ℓ) (c : Dev nD) :
    Value.res_main_v28 (F := Ideal) m c = plain (m ((c.tc : Thread nD τ).loc main_arg0)) (m ((c.tc : Thread nD τ).loc main_arg1))
      (m ((c.tc : Thread nD τ).loc main_arg2)) (m ((c.tc : Thread nD τ).loc main_arg3)) := rfl

/-- The result's entries, given what was chosen and taken. -/
theorem plain_apply (x : FVec Ideal S256x128 .f32) (rw : FVec Ideal S128x32 .f32) (ix : IVec S256x2 32) (W : FVec Ideal S32x128x256 .f32) (r f : Fin 256) :
    plain x rw ix W (ix2 r f)
      = Ideal.div (chosen (probs x rw) ix (ix2 r 0)) (chosen (probs x rw) ix (ix2 r 0) + chosen (probs x rw) ix (ix2 r 1))
          * (∑ k : Fin 128, x (ix2 r k) * taken W (extractStridedSlice S256x1 ![0, 0] ix slices_S256x2_S256x1_0_0) (ix3 r k f))
        + Ideal.div (chosen (probs x rw) ix (ix2 r 1)) (chosen (probs x rw) ix (ix2 r 0) + chosen (probs x rw) ix (ix2 r 1))
          * (∑ k : Fin 128, x (ix2 r k) * taken W (extractStridedSlice S256x1 ![0, 1] ix slices_S256x2_S256x1_0_1) (ix3 r k f)) := by
  unfold plain
  generalize chosen (probs x rw) ix = G
  generalize taken W (extractStridedSlice S256x1 ![0, 0] ix slices_S256x2_S256x1_0_0) = T0
  generalize taken W (extractStridedSlice S256x1 ![0, 1] ix slices_S256x2_S256x1_0_1) = T1
  pointwise

/-- An expert's number is not negative, so indexing leaves it as it is. -/
theorem wrap_eq : ∀ e : Fin 32, Scalar.select (IntOp.cmpi CmpIPredicate.slt (BitVec.ofNat 32 e.val) 0#32) (IntOp.addi (BitVec.ofNat 32 e.val) 32#32)
    (BitVec.ofNat 32 e.val) = BitVec.ofNat 32 e.val := by
  decide +kernel

/-- An expert's number is in range, so clamping leaves it as it is. -/
theorem clamp_eq : ∀ e : Fin 32, min (BitVec.ofNat 32 e.val).toInt.toNat 31 = e.val := by
  decide +kernel

/-- A chosen expert's probability. -/
theorem chosen_apply (P : FVec Ideal S256x32 .f32) (ix : IVec S256x2 32) (r : Fin 256) (j : Fin 2) (e : Fin 32) (he : ix (ix2 r j) = BitVec.ofNat 32 e.val) :
    chosen P ix (ix2 r j) = P (ix2 r e) := by
  unfold chosen
  generalize hI : shapeCast S256x2x1 _ _ = I
  have hI' : I (ix3 r j 0) = BitVec.ofNat 32 e.val := by
    subst hI
    pointwise
    rw [he]
    exact wrap_eq e
  unfold Host.gather
  congr 1
  funext a
  refine Fin.ext ?_
  show gather_S256x32_S256x2x1_S256x2_n_1_0_0_1_2_11.start (ix2 r j) I a
    + gather_S256x32_S256x2x1_S256x2_n_1_0_0_1_2_11.batchCoord (ix2 r j) a
    + gather_S256x32_S256x2x1_S256x2_n_1_0_0_1_2_11.offCoord (ix2 r j) a = _
  have cases : a = (0 : Fin 2) ∨ a = (1 : Fin 2) :=
    match a with
    | ⟨0, _⟩ => Or.inl rfl
    | ⟨1, _⟩ => Or.inr rfl
  rcases cases with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S256x32_S256x2x1_S256x2_n_1_0_0_1_2_11.operandBatchingDims from List.mem_singleton.mpr rfl)]
    rfl
  · rw [GatherDims.batchCoord_eq_zero _ _ _ (show (1 : Fin 2) ∉ gather_S256x32_S256x2x1_S256x2_n_1_0_0_1_2_11.operandBatchingDims from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S256x32_S256x2x1_S256x2_n_1_0_0_1_2_11.startIndexMap from List.mem_singleton.mpr rfl)]
    have hs : gather_S256x32_S256x2x1_S256x2_n_1_0_0_1_2_11.siIdx (ix2 r j) ⟨List.idxOf (1 : Fin 2) [1],
        List.idxOf_lt_length_iff.2 (List.mem_singleton.mpr rfl)⟩ = ix3 r j 0 := by
      funext b
      refine Fin.ext ?_
      match b with
      | ⟨0, _⟩ => rfl
      | ⟨1, _⟩ => rfl
      | ⟨2, _⟩ => rfl
    have key := clamp_eq e
    rw [← hI', ← hs] at key
    exact key

/-- The weights taken. -/
theorem taken_apply (W : FVec Ideal S32x128x256 .f32) (ix : IVec S256x1 32) (r : Fin 256) (k : Fin 128) (f : Fin 256) (e : Fin 32) (he : ix (ix2 r 0) = BitVec.ofNat 32 e.val) :
    taken W ix (ix3 r k f) = W (ix3 e k f) := by
  unfold taken
  generalize hI : broadcastInDim S256x1 _ _ _ = I
  have hI' : I (ix2 r 0) = BitVec.ofNat 32 e.val := by
    subst hI
    pointwise
    exact he
  unfold Host.gather
  congr 1
  funext a
  refine Fin.ext ?_
  show gather_S32x128x256_S256x1_S256x128x256_12_0_n_n_0_1_1128256.start (ix3 r k f) I a
    + gather_S32x128x256_S256x1_S256x128x256_12_0_n_n_0_1_1128256.batchCoord (ix3 r k f) a
    + gather_S32x128x256_S256x1_S256x128x256_12_0_n_n_0_1_1128256.offCoord (ix3 r k f) a = _
  rw [GatherDims.batchCoord_eq_zero _ _ _ (fun h => absurd h List.not_mem_nil), Nat.add_zero]
  have cases : a = (0 : Fin 3) ∨ a = (1 : Fin 3) ∨ a = (2 : Fin 3) :=
    match a with
    | ⟨0, _⟩ => Or.inl rfl
    | ⟨1, _⟩ => Or.inr (Or.inl rfl)
    | ⟨2, _⟩ => Or.inr (Or.inr rfl)
  rcases cases with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S32x128x256_S256x1_S256x128x256_12_0_n_n_0_1_1128256.startIndexMap from List.mem_singleton.mpr rfl)]
    have hs : gather_S32x128x256_S256x1_S256x128x256_12_0_n_n_0_1_1128256.siIdx (ix3 r k f) ⟨List.idxOf (0 : Fin 3) [0],
        List.idxOf_lt_length_iff.2 (List.mem_singleton.mpr rfl)⟩ = ix2 r 0 := by
      funext b
      refine Fin.ext ?_
      match b with
      | ⟨0, _⟩ => rfl
      | ⟨1, _⟩ => rfl
    have key := clamp_eq e
    rw [← hI', ← hs] at key
    exact key
  · unfold GatherDims.start
    rw [dif_neg (show (1 : Fin 3) ∉ gather_S32x128x256_S256x1_S256x128x256_12_0_n_n_0_1_1128256.startIndexMap from by decide), Nat.zero_add]
    unfold GatherDims.offCoord
    rw [dif_pos (show (1 : Fin 3) ∈ gather_S32x128x256_S256x1_S256x128x256_12_0_n_n_0_1_1128256.sKept from (gather_S32x128x256_S256x1_S256x128x256_12_0_n_n_0_1_1128256.mem_sKept _).mpr ⟨by decide, by decide⟩)]
    rfl
  · unfold GatherDims.start
    rw [dif_neg (show (2 : Fin 3) ∉ gather_S32x128x256_S256x1_S256x128x256_12_0_n_n_0_1_1128256.startIndexMap from by decide), Nat.zero_add]
    unfold GatherDims.offCoord
    rw [dif_pos (show (2 : Fin 3) ∈ gather_S32x128x256_S256x1_S256x128x256_12_0_n_n_0_1_1128256.sKept from (gather_S32x128x256_S256x1_S256x128x256_12_0_n_n_0_1_1128256.mem_sKept _).mpr ⟨by decide, by decide⟩)]
    rfl

end Cert.Moe

end
-- ==== Proof.Equal.lean ====
/-
The kernel's result and the reference's are equal.
-/
module

public import proofs.«01_k».proof.Proof.Frames
public import proofs.«01_k».proof.Proof.Gen.Pre_two_experts_KernelIdeal
public import proofs.«01_k».proof.Proof.Value
public import proofs.«01_k».proof.Proof.Plain

@[expose] public section

noncomputable section

namespace Cert.Moe

open Idealize.ShloMosaic
open Idealize.ShloMosaic.TcCoe
open Idealize.SL.Sem

/-- The kernel's probabilities are the reference's, entry by entry. -/
theorem probs_at (x : FVec Ideal KernelIdeal.S256x128 .f32) (rw : FVec Ideal KernelIdeal.S128x32 .f32) (r : Fin 256) (l : Fin 32) :
    KernelIdeal.Gen.k0_pay3 (F := Ideal) (KernelIdeal.Gen.k0_pay2 x) rw (ix2 r l) = probs x rw (ix2 r l) := by
  pointwise [KernelIdeal.Gen.k0_pay3, KernelIdeal.Gen.k0_pay2, probs]

/-- The kernel's probabilities are the reference's. -/
theorem probs_eq (x : FVec Ideal KernelIdeal.S256x128 .f32) (rw : FVec Ideal KernelIdeal.S128x32 .f32) :
    KernelIdeal.Gen.k0_pay3 (F := Ideal) (KernelIdeal.Gen.k0_pay2 x) rw = probs x rw := by
  funext i
  have hi : i = ix2 (n0 := 256) (n1 := 32) (i 0) (i 1) := (ValueIdx.eq_ix2 (n0 := 256) (n1 := 32) i).trans (ix2_eq_valueIdx _ _).symm
  rw [hi]
  exact probs_at x rw (i 0) (i 1)

/-- An index that is neither negative nor 32 or more is an expert's number. -/
theorem expert_of (b : BitVec 32) (h : IntOp.andi (IntOp.cmpi CmpIPredicate.sge b 0#32) (IntOp.cmpi CmpIPredicate.slt b 32#32) = 1#1) :
    ∃ e : Fin 32, b = BitVec.ofNat 32 e.val := by
  have hlt : b.toNat < 32 := by
    have hge : (0#32).sle b = true := by
      rcases hs : (0#32).sle b with _ | _
      · rw [show IntOp.cmpi CmpIPredicate.sge b 0#32 = BitVec.ofBool ((0#32).sle b) from rfl, hs] at h
        exact absurd h (by rcases (IntOp.cmpi CmpIPredicate.slt b 32#32).eq_zero_or_eq_one with h' | h' <;> rw [h'] <;> decide)
      · rfl
    have hl : b.slt 32#32 = true := by
      rcases hs : b.slt 32#32 with _ | _
      · rw [show IntOp.cmpi CmpIPredicate.slt b 32#32 = BitVec.ofBool (b.slt 32#32) from rfl, hs] at h
        exact absurd h (by rcases (IntOp.cmpi CmpIPredicate.sge b 0#32).eq_zero_or_eq_one with h' | h' <;> rw [h'] <;> decide)
      · rfl
    rw [BitVec.sle_eq_decide, decide_eq_true_eq] at hge
    rw [BitVec.slt_eq_decide, decide_eq_true_eq] at hl
    rw [show (0#32 : BitVec 32).toInt = 0 from rfl] at hge
    rw [show (32#32 : BitVec 32).toInt = 32 from rfl] at hl
    have := BitVec.toInt_eq_toNat_cond b
    have := b.isLt
    split at * <;> omega
  exact ⟨⟨b.toNat, hlt⟩, by simp⟩

/-- What the precondition says of a row: its two indices are two experts' numbers. -/
theorem row_of (x : FVec Ideal Pre_two_experts_KernelIdeal.S256x128 .f32) (rw : FVec Ideal Pre_two_experts_KernelIdeal.S128x32 .f32)
    (ix : IVec Pre_two_experts_KernelIdeal.S256x2 32) (w : FVec Ideal Pre_two_experts_KernelIdeal.S2x128x256 .f32)
    (h1 : (Pre_two_experts_KernelIdeal.fn (F := Ideal) x rw ix w).1 = fun _ => 1#1)
    (h2 : (Pre_two_experts_KernelIdeal.fn (F := Ideal) x rw ix w).2 = fun _ => 1#1) (r : Fin 256) :
    ∃ e0 e1 : Fin 32, e0 ≠ e1 ∧ ix (ix2 r 0) = BitVec.ofNat 32 e0.val ∧ ix (ix2 r 1) = BitVec.ofNat 32 e1.val := by
  have hb : ∀ j : Fin 2, ∃ e : Fin 32, ix (ix2 r j) = BitVec.ofNat 32 e.val := fun j => by
    have h := congrFun h2 (ix2 r j)
    refine expert_of _ (Eq.trans ?_ h)
    unfold Pre_two_experts_KernelIdeal.fn
    pointwise
  obtain ⟨e0, h0⟩ := hb 0
  obtain ⟨e1, h1'⟩ := hb 1
  refine ⟨e0, e1, ?_, h0, h1'⟩
  rintro rfl
  have h := congrFun h1 (ix1 r)
  have hn : (Pre_two_experts_KernelIdeal.fn (F := Ideal) x rw ix w).1 (ix1 r)
      = IntOp.cmpi CmpIPredicate.ne (ix (ix2 r 0)) (ix (ix2 r 1)) := by
    unfold Pre_two_experts_KernelIdeal.fn
    pointwise
  rw [hn, h0, h1'] at h
  revert h
  rw [show IntOp.cmpi CmpIPredicate.ne (BitVec.ofNat 32 e0.val) (BitVec.ofNat 32 e0.val)
    = BitVec.ofBool (BitVec.ofNat 32 e0.val != BitVec.ofNat 32 e0.val) from rfl, bne_self_eq_false]
  decide

/-- A device's experts are its block of the experts. -/
theorem block_at (W : FVec Ideal ReferenceIdeal.S32x128x256 .f32) (c : Fin 16) (h : Layout.Tiles ⟨3, ![2, 128, 256]⟩ ⟨3, ![32, 128, 256]⟩ 0 16)
    (j : Fin 2) (k : Fin 128) (f : Fin 256) :
    Layout.block ⟨3, ![2, 128, 256]⟩ ⟨3, ![32, 128, 256]⟩ 0 16 c W h (ix3 j k f) = W (ix3 (expert c j) k f) := by
  rw [Layout.block_apply]
  refine congrArg W ?_
  funext a
  refine Fin.ext ?_
  match a with
  | ⟨0, _⟩ => rfl
  | ⟨1, _⟩ => rfl
  | ⟨2, _⟩ => rfl

/-- The reference's result's entries, where the row's routing indices are experts `e0`, `e1`. -/
theorem plain_at (x : FVec Ideal ReferenceIdeal.S256x128 .f32) (rw : FVec Ideal ReferenceIdeal.S128x32 .f32) (ix : IVec ReferenceIdeal.S256x2 32)
    (W : FVec Ideal ReferenceIdeal.S32x128x256 .f32) (e0 e1 : Fin 32) (r f : Fin 256)
    (h0 : ix (ix2 r 0) = BitVec.ofNat 32 e0.val) (h1 : ix (ix2 r 1) = BitVec.ofNat 32 e1.val) :
    plain x rw ix W (ix2 r f)
      = Ideal.div (probs x rw (ix2 r e0)) (probs x rw (ix2 r e0) + probs x rw (ix2 r e1)) * prod x (fun k f => W (ix3 e0 k f)) r f
        + Ideal.div (probs x rw (ix2 r e1)) (probs x rw (ix2 r e0) + probs x rw (ix2 r e1)) * prod x (fun k f => W (ix3 e1 k f)) r f := by
  have s0 : ∀ h, extractStridedSlice ReferenceIdeal.S256x1 ![0, 0] ix h (ix2 r 0) = BitVec.ofNat 32 e0.val := fun h => by
    pointwise
    exact h0
  have s1 : ∀ h, extractStridedSlice ReferenceIdeal.S256x1 ![0, 1] ix h (ix2 r 0) = BitVec.ofNat 32 e1.val := fun h => by
    pointwise
    exact h1
  rw [plain_apply, chosen_apply _ _ r 0 e0 h0, chosen_apply _ _ r 1 e1 h1]
  simp only [taken_apply W _ r _ f e0 (s0 _), taken_apply W _ r _ f e1 (s1 _)]
  rfl

end Cert.Moe

namespace Cert

open Idealize.ShloMosaic Idealize.SL.Sem Cert.Moe

/-- Kernel and reference end with the same result on every device, over exact numbers. -/
theorem algebraic : algebraic_KernelIdeal_ReferenceIdeal_pre_two_experts_KernelIdeal := by
  intro m g m' g' hpre hm
  refine ⟨_, (θ_run _ _ _).mono (fun r h c => ⟨(h.1 c).1.trans ?_, (h.1 c).2⟩) (run_vals m g),
    (θ_run _ _ _).mono (fun r h => h 0) (ReferenceIdeal.Value.run m' g')⟩
  rw [res_eq]
  funext i
  have hi : i = ix2 (n0 := 256) (n1 := 256) (i 0) (i 1) := (ValueIdx.eq_ix2 (n0 := 256) (n1 := 256) i).trans (ix2_eq_valueIdx _ _).symm
  rw [hi]
  have hp := hpre c
  rw [(hm c).2.2.1] at hp
  obtain ⟨e0, e1, hne, h0, h1⟩ := row_of _ _ _ _ hp.1 hp.2 (i 0)
  refine (outB_apply m c _ _ _ (fun e k f => (m' (((0 : Dev ReferenceIdeal.nD).tc : Thread ReferenceIdeal.nD ReferenceIdeal.τ).loc ReferenceIdeal.main_arg3) :
      FVec Ideal ReferenceIdeal.S32x128x256 .f32) (ix3 e k f)) e0 e1 (i 0) (i 1) hne
    (fun d => (hm d).1) (fun d => (hm d).2.1) (fun d => (hm d).2.2.1) (fun d j k f => ?_) h0 h1 _ (probs_eq _ _)).trans
    (plain_at _ _ _ _ e0 e1 (i 0) (i 1) h0 h1).symm
  rw [(hm d).2.2.2]
  exact block_at _ d _ j k f

end Cert

end
-- ==== Proof.lean ====
/- The certificate's claims, from the kernel's run, the reference's run and the equation between their results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_two_experts_KernelIdeal
public import proofs.«01_k».proof.Proof.Gen.Pre_two_experts_ReferenceIdeal
public import proofs.«01_k».proof.Proof.Frames
public import proofs.«01_k».proof.Proof.Equal
public import Idealize.ShloMosaic.Adequacy
public import Idealize.ShloMosaic.Init

@[expose] public section

noncomputable section

namespace Cert.Proof

/-- The certificate's claims: the three frames (which hold of every memory, so also under the precondition), the
    idealization, and that the kernel computes the reference's result. -/
theorem claim : Cert.Claim := ⟨Cert.Kernel.Gen.facts, Cert.KernelIdeal.Gen.facts, Cert.ReferenceIdeal.Gen.facts,
  Cert.Pre_two_experts_KernelIdeal.Gen.facts, Cert.Pre_two_experts_ReferenceIdeal.Gen.facts,
  Cert.frame_kernel, Cert.frame_ideal, fun m g _ => Cert.frame_ideal m g trivial, Cert.frame_reference,
  fun m g _ => Cert.frame_reference m g trivial, trivial, Cert.algebraic⟩

end Cert.Proof

end
